-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.blockN ⟨3, ![1, 8192, 2048]⟩ ⟨3, ![4, 8192, 2048]⟩ (Layout.meshBlock [2, 4, 4] ![[1], [], []] c) (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)) →
    ∃ (v0 : Buf (Elt Ideal) (((0 : Dev Cert.ReferenceIdeal.nD).tc : Thread Cert.ReferenceIdeal.nD Cert.ReferenceIdeal.τ).loc Cert.ReferenceIdeal.main_v13)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = Layout.blockN ⟨2, ![2048, 2048]⟩ ⟨2, ![8192, 2048]⟩ (Layout.meshBlock [2, 4, 4] ![[1], []] c) v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v13) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S1x8192x2048 : Shape := ⟨3, ![1, 8192, 2048]⟩
abbrev S2048 : Shape := ⟨1, ![2048]⟩
abbrev S8192x2048 : Shape := ⟨2, ![8192, 2048]⟩
abbrev S1x2048 : Shape := ⟨2, ![1, 2048]⟩
abbrev S2048x2048 : Shape := ⟨2, ![2048, 2048]⟩
abbrev S2048x1024 : Shape := ⟨2, ![2048, 1024]⟩
abbrev S3x2048x1024 : Shape := ⟨3, ![3, 2048, 1024]⟩
abbrev S3 : Shape := ⟨1, ![3]⟩
abbrev S_ : Shape := ⟨0, ![]⟩
abbrev S1 : Shape := ⟨1, ![1]⟩
abbrev S1x2048x1024 : Shape := ⟨3, ![1, 2048, 1024]⟩
abbrev S2048x1 : Shape := ⟨2, ![2048, 1]⟩

abbrev nBuf : Space → Nat
  | .hbm => 5
  | .vmem => 5
  | .smem => 0
  | _ => 0

abbrev bufTy : (tb : Table) → Fin (tcTables nBuf tb) → BufTy
  | .hbm, ⟨0, _⟩ => ⟨S1x8192x2048, .f32⟩
  | .hbm, ⟨1, _⟩ => ⟨S2048, .f32⟩
  | .hbm, ⟨2, _⟩ => ⟨S8192x2048, .f32⟩
  | .hbm, ⟨3, _⟩ => ⟨S1x2048, .f32⟩
  | .hbm, ⟨4, _⟩ => ⟨S2048x2048, .f32⟩
  | .local _ .vmem, ⟨0, _⟩ => ⟨S1x2048, .f32⟩
  | .local _ .vmem, ⟨1, _⟩ => ⟨S2048x2048, .f32⟩
  | .local _ .vmem, ⟨2, _⟩ => ⟨S2048x1024, .f32⟩
  | .local _ .vmem, ⟨3, _⟩ => ⟨S2048x1024, .f32⟩
  | .local _ .vmem, ⟨4, _⟩ => ⟨S3x2048x1024, .f32⟩
  | _, _ => ⟨S1x8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 2 → Bool
  | ⟨0, _⟩ => true
  | ⟨1, _⟩ => false
  | _ => false

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  (ofTc nBuf bufTy 2 9 bufScoped semScoped dmaSemScoped tileCredit tileCredit_eq_zero tileCredit_pos).withBarriers [(0, 1)]

abbrev main_arg0 : Ref sig .tc := ⟨.hbm, 0, rfl⟩
abbrev main_arg1 : Ref sig .tc := ⟨.hbm, 1, rfl⟩
abbrev main_v1 : Ref sig .tc := ⟨.hbm, 2, rfl⟩
abbrev main_v2 : Ref sig .tc := ⟨.hbm, 3, rfl⟩
abbrev main_v3 : Ref sig .tc := ⟨.hbm, 4, rfl⟩
abbrev cc0_stg0_0 : Ref sig .tc := ⟨.vmem, 0, rfl⟩
abbrev cc0_stg1_0 : Ref sig .tc := ⟨.vmem, 1, rfl⟩
abbrev cc0_scratch0 : Ref sig .tc := ⟨.vmem, 2, rfl⟩
abbrev cc0_scratch1 : Ref sig .tc := ⟨.vmem, 3, rfl⟩
abbrev cc0_scratch2 : Ref sig .tc := ⟨.vmem, 4, rfl⟩
abbrev cc0_sem0_0 : DmaSem sig := 0
abbrev cc0_sem1_0 : DmaSem sig := 1
abbrev barrier0 : Sem sig := 1

abbrev nD : Nat := 32
abbrev τ : Topo := Topo.v7x

variable {F : FTy → Type} [FloatOps F]

abbrev grid0 : Pipeline.Grid := .none

def k0_dev1 (d0 : Dev nD) : Nat :=
  let c0_i32 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_8 : BitVec 32 := 16#32
  let v15 : BitVec 32 := Scalar.muli v2 c16_i32_8
  let v16 : BitVec 32 := Scalar.addi c0_i32 v15
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_4 : BitVec 32 := 4#32
  let v11 : BitVec 32 := Scalar.addi v5 c4_i32_4
  let c1_i32_5 : BitVec 32 := 1#32
  let v12 : BitVec 32 := Scalar.subi v11 c1_i32_5
  let c4_i32_6 : BitVec 32 := 4#32
  let v13 : BitVec 32 := Scalar.remsi v12 c4_i32_6
  let c4_i32_9 : BitVec 32 := 4#32
  let v17 : BitVec 32 := Scalar.muli v13 c4_i32_9
  let v18 : BitVec 32 := Scalar.addi v16 v17
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_10 : BitVec 32 := 1#32
  let v19 : BitVec 32 := Scalar.muli v8 c1_i32_10
  let v20 : BitVec 32 := Scalar.addi v18 v19
  v20.toNat
def k0_dev2 (d0 : Dev nD) : Nat :=
  let c0_i32_13 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_12 : BitVec 32 := 16#32
  let v21 : BitVec 32 := Scalar.muli v2 c16_i32_12
  let v22 : BitVec 32 := Scalar.addi c0_i32_13 v21
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_2 : BitVec 32 := 1#32
  let v9 : BitVec 32 := Scalar.addi v5 c1_i32_2
  let c4_i32_3 : BitVec 32 := 4#32
  let v10 : BitVec 32 := Scalar.remsi v9 c4_i32_3
  let c4_i32_14 : BitVec 32 := 4#32
  let v23 : BitVec 32 := Scalar.muli v10 c4_i32_14
  let v24 : BitVec 32 := Scalar.addi v22 v23
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_15 : BitVec 32 := 1#32
  let v25 : BitVec 32 := Scalar.muli v8 c1_i32_15
  let v26 : BitVec 32 := Scalar.addi v24 v25
  v26.toNat
def k0_off1 (d0 : Dev nD) : Fin 2 → Nat :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_17 : BitVec 32 := 4#32
  let v27 : BitVec 32 := Scalar.addi v5 c4_i32_17
  let c1_i32_18 : BitVec 32 := 1#32
  let v28 : BitVec 32 := Scalar.subi v27 c1_i32_18
  let c4_i32_19 : BitVec 32 := 4#32
  let v29 : BitVec 32 := Scalar.remsi v28 c4_i32_19
  let c2048_i32 : BitVec 32 := 2048#32
  let v30 : BitVec 32 := Scalar.muli v29 c2048_i32
  let c0_i32_20 : BitVec 32 := 0#32
  ![v30.toNat, 0]
def k0_dev3 (d0 : Dev nD) : Nat :=
  let c0_i32_26 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_25 : BitVec 32 := 16#32
  let v33 : BitVec 32 := Scalar.muli v2 c16_i32_25
  let v34 : BitVec 32 := Scalar.addi c0_i32_26 v33
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_2 : BitVec 32 := 1#32
  let v9 : BitVec 32 := Scalar.addi v5 c1_i32_2
  let c4_i32_3 : BitVec 32 := 4#32
  let v10 : BitVec 32 := Scalar.remsi v9 c4_i32_3
  let c4_i32_27 : BitVec 32 := 4#32
  let v35 : BitVec 32 := Scalar.muli v10 c4_i32_27
  let v36 : BitVec 32 := Scalar.addi v34 v35
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_28 : BitVec 32 := 1#32
  let v37 : BitVec 32 := Scalar.muli v8 c1_i32_28
  let v38 : BitVec 32 := Scalar.addi v36 v37
  v38.toNat
def k0_off2 (d0 : Dev nD) (c0_i32_47 : BitVec 32) : Fin 2 → Nat :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c8_i32 : BitVec 32 := 8#32
  let v59 : BitVec 32 := Scalar.addi v5 c8_i32
  let c2_i32_46 : BitVec 32 := 2#32
  let v60 : BitVec 32 := Scalar.subi v59 c2_i32_46
  let v61 : BitVec 32 := Scalar.subi v60 c0_i32_47
  let c4_i32_48 : BitVec 32 := 4#32
  let v62 : BitVec 32 := Scalar.remsi v61 c4_i32_48
  let c2048_i32_49 : BitVec 32 := 2048#32
  let v63 : BitVec 32 := Scalar.muli v62 c2048_i32_49
  let c0_i32_50 : BitVec 32 := 0#32
  ![v63.toNat, 0]
def k0_dev4 (d0 : Dev nD) : Nat :=
  let c0_i32_64 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_63 : BitVec 32 := 16#32
  let v73 : BitVec 32 := Scalar.muli v2 c16_i32_63
  let v74 : BitVec 32 := Scalar.addi c0_i32_64 v73
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_2 : BitVec 32 := 1#32
  let v9 : BitVec 32 := Scalar.addi v5 c1_i32_2
  let c4_i32_3 : BitVec 32 := 4#32
  let v10 : BitVec 32 := Scalar.remsi v9 c4_i32_3
  let c4_i32_65 : BitVec 32 := 4#32
  let v75 : BitVec 32 := Scalar.muli v10 c4_i32_65
  let v76 : BitVec 32 := Scalar.addi v74 v75
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_66 : BitVec 32 := 1#32
  let v77 : BitVec 32 := Scalar.muli v8 c1_i32_66
  let v78 : BitVec 32 := Scalar.addi v76 v77
  v78.toNat
def k0_dev5 (d0 : Dev nD) : Nat :=
  let c0_i32_111 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_110 : BitVec 32 := 16#32
  let v119 : BitVec 32 := Scalar.muli v2 c16_i32_110
  let v120 : BitVec 32 := Scalar.addi c0_i32_111 v119
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_2 : BitVec 32 := 1#32
  let v9 : BitVec 32 := Scalar.addi v5 c1_i32_2
  let c4_i32_3 : BitVec 32 := 4#32
  let v10 : BitVec 32 := Scalar.remsi v9 c4_i32_3
  let c4_i32_112 : BitVec 32 := 4#32
  let v121 : BitVec 32 := Scalar.muli v10 c4_i32_112
  let v122 : BitVec 32 := Scalar.addi v120 v121
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_113 : BitVec 32 := 1#32
  let v123 : BitVec 32 := Scalar.muli v8 c1_i32_113
  let v124 : BitVec 32 := Scalar.addi v122 v123
  v124.toNat
def k0_off3 (d0 : Dev nD) : Fin 2 → Nat :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c2048_i32_139 : BitVec 32 := 2048#32
  let v151 : BitVec 32 := Scalar.muli v5 c2048_i32_139
  let c0_i32_140 : BitVec 32 := 0#32
  ![v151.toNat, 0]
def k0_dev6 (d0 : Dev nD) : Nat :=
  let c0_i32_150 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_149 : BitVec 32 := 16#32
  let v159 : BitVec 32 := Scalar.muli v2 c16_i32_149
  let v160 : BitVec 32 := Scalar.addi c0_i32_150 v159
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_4 : BitVec 32 := 4#32
  let v11 : BitVec 32 := Scalar.addi v5 c4_i32_4
  let c1_i32_5 : BitVec 32 := 1#32
  let v12 : BitVec 32 := Scalar.subi v11 c1_i32_5
  let c4_i32_6 : BitVec 32 := 4#32
  let v13 : BitVec 32 := Scalar.remsi v12 c4_i32_6
  let c4_i32_151 : BitVec 32 := 4#32
  let v161 : BitVec 32 := Scalar.muli v13 c4_i32_151
  let v162 : BitVec 32 := Scalar.addi v160 v161
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_152 : BitVec 32 := 1#32
  let v163 : BitVec 32 := Scalar.muli v8 c1_i32_152
  let v164 : BitVec 32 := Scalar.addi v162 v163
  v164.toNat
def k0_off4 (d0 : Dev nD) : Fin 2 → Nat :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_155 : BitVec 32 := 4#32
  let v165 : BitVec 32 := Scalar.addi v5 c4_i32_155
  let c1_i32_156 : BitVec 32 := 1#32
  let v166 : BitVec 32 := Scalar.subi v165 c1_i32_156
  let c4_i32_157 : BitVec 32 := 4#32
  let v167 : BitVec 32 := Scalar.remsi v166 c4_i32_157
  let c2048_i32_158 : BitVec 32 := 2048#32
  let v168 : BitVec 32 := Scalar.muli v167 c2048_i32_158
  let c1024_i32 : BitVec 32 := 1024#32
  ![v168.toNat, 1024]
def k0_dev7 (d0 : Dev nD) : Nat :=
  let c0_i32_164 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_163 : BitVec 32 := 16#32
  let v171 : BitVec 32 := Scalar.muli v2 c16_i32_163
  let v172 : BitVec 32 := Scalar.addi c0_i32_164 v171
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_2 : BitVec 32 := 1#32
  let v9 : BitVec 32 := Scalar.addi v5 c1_i32_2
  let c4_i32_3 : BitVec 32 := 4#32
  let v10 : BitVec 32 := Scalar.remsi v9 c4_i32_3
  let c4_i32_165 : BitVec 32 := 4#32
  let v173 : BitVec 32 := Scalar.muli v10 c4_i32_165
  let v174 : BitVec 32 := Scalar.addi v172 v173
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_166 : BitVec 32 := 1#32
  let v175 : BitVec 32 := Scalar.muli v8 c1_i32_166
  let v176 : BitVec 32 := Scalar.addi v174 v175
  v176.toNat
def k0_off5 (d0 : Dev nD) (c0_i32_186 : BitVec 32) : Fin 2 → Nat :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c8_i32_184 : BitVec 32 := 8#32
  let v197 : BitVec 32 := Scalar.addi v5 c8_i32_184
  let c2_i32_185 : BitVec 32 := 2#32
  let v198 : BitVec 32 := Scalar.subi v197 c2_i32_185
  let v199 : BitVec 32 := Scalar.subi v198 c0_i32_186
  let c4_i32_187 : BitVec 32 := 4#32
  let v200 : BitVec 32 := Scalar.remsi v199 c4_i32_187
  let c2048_i32_188 : BitVec 32 := 2048#32
  let v201 : BitVec 32 := Scalar.muli v200 c2048_i32_188
  let c1024_i32_189 : BitVec 32 := 1024#32
  ![v201.toNat, 1024]
def k0_dev8 (d0 : Dev nD) : Nat :=
  let c0_i32_204 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_203 : BitVec 32 := 16#32
  let v211 : BitVec 32 := Scalar.muli v2 c16_i32_203
  let v212 : BitVec 32 := Scalar.addi c0_i32_204 v211
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_2 : BitVec 32 := 1#32
  let v9 : BitVec 32 := Scalar.addi v5 c1_i32_2
  let c4_i32_3 : BitVec 32 := 4#32
  let v10 : BitVec 32 := Scalar.remsi v9 c4_i32_3
  let c4_i32_205 : BitVec 32 := 4#32
  let v213 : BitVec 32 := Scalar.muli v10 c4_i32_205
  let v214 : BitVec 32 := Scalar.addi v212 v213
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_206 : BitVec 32 := 1#32
  let v215 : BitVec 32 := Scalar.muli v8 c1_i32_206
  let v216 : BitVec 32 := Scalar.addi v214 v215
  v216.toNat
def k0_dev9 (d0 : Dev nD) : Nat :=
  let c0_i32_252 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_251 : BitVec 32 := 16#32
  let v257 : BitVec 32 := Scalar.muli v2 c16_i32_251
  let v258 : BitVec 32 := Scalar.addi c0_i32_252 v257
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_2 : BitVec 32 := 1#32
  let v9 : BitVec 32 := Scalar.addi v5 c1_i32_2
  let c4_i32_3 : BitVec 32 := 4#32
  let v10 : BitVec 32 := Scalar.remsi v9 c4_i32_3
  let c4_i32_253 : BitVec 32 := 4#32
  let v259 : BitVec 32 := Scalar.muli v10 c4_i32_253
  let v260 : BitVec 32 := Scalar.addi v258 v259
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_254 : BitVec 32 := 1#32
  let v261 : BitVec 32 := Scalar.muli v8 c1_i32_254
  let v262 : BitVec 32 := Scalar.addi v260 v261
  v262.toNat
def k0_off6 (d0 : Dev nD) : Fin 2 → Nat :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c2048_i32_280 : BitVec 32 := 2048#32
  let v289 : BitVec 32 := Scalar.muli v5 c2048_i32_280
  let c1024_i32_281 : BitVec 32 := 1024#32
  ![v289.toNat, 1024]
def k0_dev10 (d0 : Dev nD) : Nat :=
  let c0_i32_291 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_290 : BitVec 32 := 16#32
  let v297 : BitVec 32 := Scalar.muli v2 c16_i32_290
  let v298 : BitVec 32 := Scalar.addi c0_i32_291 v297
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_4 : BitVec 32 := 4#32
  let v11 : BitVec 32 := Scalar.addi v5 c4_i32_4
  let c1_i32_5 : BitVec 32 := 1#32
  let v12 : BitVec 32 := Scalar.subi v11 c1_i32_5
  let c4_i32_6 : BitVec 32 := 4#32
  let v13 : BitVec 32 := Scalar.remsi v12 c4_i32_6
  let c4_i32_292 : BitVec 32 := 4#32
  let v299 : BitVec 32 := Scalar.muli v13 c4_i32_292
  let v300 : BitVec 32 := Scalar.addi v298 v299
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_293 : BitVec 32 := 1#32
  let v301 : BitVec 32 := Scalar.muli v8 c1_i32_293
  let v302 : BitVec 32 := Scalar.addi v300 v301
  v302.toNat
abbrev stage0_0 : Fin 1 → Memref sig .tc .vmem S1x2048 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S2048x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
-- ==== ReferenceIdeal.lean ====
abbrev S4x8192x2048 : Shape := ⟨3, ![4, 8192, 2048]⟩
abbrev S2048 : Shape := ⟨1, ![2048]⟩
abbrev S_ : Shape := ⟨0, ![]⟩
abbrev S8192x2048 : Shape := ⟨2, ![8192, 2048]⟩
abbrev S8192 : Shape := ⟨1, ![8192]⟩
abbrev S8192x1 : Shape := ⟨2, ![8192, 1]⟩
abbrev S1x2048 : Shape := ⟨2, ![1, 2048]⟩

abbrev nBuf : Space → Nat
  | .hbm => 20
  | .vmem => 0
  | .smem => 0
  | _ => 0

abbrev bufTy : (tb : Table) → Fin (tcTables nBuf tb) → BufTy
  | .hbm, ⟨0, _⟩ => ⟨S4x8192x2048, .f32⟩
  | .hbm, ⟨1, _⟩ => ⟨S2048, .f32⟩
  | .hbm, ⟨2, _⟩ => ⟨S_, .f32⟩
  | .hbm, ⟨3, _⟩ => ⟨S8192x2048, .f32⟩
  | .hbm, ⟨4, _⟩ => ⟨S8192x2048, .f32⟩
  | .hbm, ⟨5, _⟩ => ⟨S_, .f32⟩
  | .hbm, ⟨6, _⟩ => ⟨S8192, .f32⟩
  | .hbm, ⟨7, _⟩ => ⟨S8192x1, .f32⟩
  | .hbm, ⟨8, _⟩ => ⟨S_, .f32⟩
  | .hbm, ⟨9, _⟩ => ⟨S8192x1, .f32⟩
  | .hbm, ⟨10, _⟩ => ⟨S8192x1, .f32⟩
  | .hbm, ⟨11, _⟩ => ⟨S_, .f32⟩
  | .hbm, ⟨12, _⟩ => ⟨S8192x1, .f32⟩
  | .hbm, ⟨13, _⟩ => ⟨S8192x1, .f32⟩
  | .hbm, ⟨14, _⟩ => ⟨S8192x1, .f32⟩
  | .hbm, ⟨15, _⟩ => ⟨S8192x2048, .f32⟩
  | .hbm, ⟨16, _⟩ => ⟨S8192x2048, .f32⟩
  | .hbm, ⟨17, _⟩ => ⟨S1x2048, .f32⟩
  | .hbm, ⟨18, _⟩ => ⟨S8192x2048, .f32⟩
  | .hbm, ⟨19, _⟩ => ⟨S8192x2048, .f32⟩
  | _, _ => ⟨S4x8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_cst_0 : Ref sig .tc := ⟨.hbm, 5, rfl⟩
abbrev main_v2 : Ref sig .tc := ⟨.hbm, 6, rfl⟩
abbrev main_v3 : Ref sig .tc := ⟨.hbm, 7, rfl⟩
abbrev main_cst_1 : Ref sig .tc := ⟨.hbm, 8, rfl⟩
abbrev main_v4 : Ref sig .tc := ⟨.hbm, 9, rfl⟩
abbrev main_v5 : Ref sig .tc := ⟨.hbm, 10, rfl⟩
abbrev main_cst_2 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩

abbrev nD : Nat := 1
abbrev τ : Topo := Topo.v7x

variable {F : FTy → Type} [FloatOps F]
-- ==== Proof.RingIdeal.Proto.lean ====
/- The protocol of the ring reduce-scatter kernel of `proofs.«01_k».proof.KernelIdeal`, at a symbolic device `c`.

   The devices that agree on the mesh axes `x` and `z` form a ring of four along `y`. Device `c` sends to its right neighbor `nxt c`
   and receives from its left neighbor `prv c`. The columns are worked in two halves, `t = 0` and `t = 1`. In each half a partial sum
   takes three hops (`h = 0, 1, 2`): it lands in slot `h` of the next device's slot buffer, that device adds its own rows, and sends it on.

   This module states the neighbors, the semaphores and the slots, the values that travel, the schedule of the semaphores' rounds with
   what each round hands over, and what a device still owes at each stage. -/
module

public import proofs.«01_k».proof.Proof.Gen.KernelIdeal.Frame
public import Idealize.ShloMosaic.Lib.Pipeline.TalkSites
public import Idealize.ShloMosaic.Lib.Transfers

@[expose] public section

set_option maxRecDepth 16384

noncomputable section

namespace Cert.KernelIdeal.Ring

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.TalkSites (Pay tallyL Fam)
open Idealize.ShloMosaic.SiteBlocks (L lv)

variable {F : FTy → Type} [FloatOps F]

/-! ## The neighbors on the ring -/

/-- The coordinate of a device along the ring's axis. -/
def yy (c : Dev nD) : ℕ := c.val / 4 % 4
/-- The right neighbor: one further along `y`. -/
def nxt (c : Dev nD) : Dev nD := ⟨16 * (c.val / 16) + 4 * ((c.val / 4 % 4 + 1) % 4) + c.val % 4, by have := c.isLt; simp only [nD] at this ⊢; omega⟩
/-- The left neighbor: one back along `y`. -/
def prv (c : Dev nD) : Dev nD := ⟨16 * (c.val / 16) + 4 * ((c.val / 4 % 4 + 3) % 4) + c.val % 4, by have := c.isLt; simp only [nD] at this ⊢; omega⟩

theorem nxt_prv (c : Dev nD) : nxt (prv c) = c := by revert c; decide +kernel
theorem prv_nxt (c : Dev nD) : prv (nxt c) = c := by revert c; decide +kernel
theorem nxt_ne_prv (c : Dev nD) : nxt c ≠ prv c := by revert c; decide +kernel
theorem yy_prv (c : Dev nD) : yy (prv c) = (yy c + 3) % 4 := by revert c; decide +kernel

/-- A step to the right is a permutation of the devices. -/
def ringEquiv : Dev nD ≃ Dev nD := ⟨nxt, prv, prv_nxt, nxt_prv⟩

/-! ## The semaphores -/

/-- The barrier semaphore, the credit semaphore, the two directions' semaphores of each hop, the local copies' semaphore. -/
abbrev barS : Sem sig := 1
@[inherit_doc barS] abbrev crdS : Sem sig := 0
@[inherit_doc barS] def sndS (h : Fin 3) : DmaSem sig := match h with | 0 => 2 | 1 => 3 | 2 => 4
@[inherit_doc barS] def rcvS (h : Fin 3) : DmaSem sig := match h with | 0 => 5 | 1 => 6 | 2 => 7
@[inherit_doc barS] abbrev ldS : DmaSem sig := 8

/-- What a semaphore is for. -/
inductive Role where
  | bar | snd (h : Fin 3) | rcv (h : Fin 3) | crd | other
deriving DecidableEq

/-- The use of each semaphore. -/
def role : SemLoc sig → Role
  | .reg 0 => .crd
  | .reg _ => .bar
  | .dma 2 => .snd 0
  | .dma 3 => .snd 1
  | .dma 4 => .snd 2
  | .dma 5 => .rcv 0
  | .dma 6 => .rcv 1
  | .dma 7 => .rcv 2
  | .dma _ => .other

theorem role_bar : role (.reg barS) = .bar := rfl
theorem role_crd : role (.reg crdS) = .crd := rfl
theorem role_snd (h : Fin 3) : role (.dma (sndS h)) = .snd h := by revert h; decide
theorem role_rcv (h : Fin 3) : role (.dma (rcvS h)) = .rcv h := by revert h; decide

/-- The cells of a device. -/
abbrev barC (c : Dev nD) : GSem nD τ sig := ((c : Thread nD τ), .reg barS)
@[inherit_doc barC] abbrev crdC (c : Dev nD) : GSem nD τ sig := ((c : Thread nD τ), .reg crdS)
@[inherit_doc barC] abbrev sndC (c : Dev nD) (h : Fin 3) : GSem nD τ sig := ((c : Thread nD τ), .dma (sndS h))
@[inherit_doc barC] abbrev rcvC (c : Dev nD) (h : Fin 3) : GSem nD τ sig := ((c : Thread nD τ), .dma (rcvS h))

/-! ## The buffers -/

/-- The scratch buffer of the first send, the local copies' landing buffer, the three slots. -/
abbrev s0M : Memref sig .tc .vmem S2048x1024 .f32 := Memref.whole cc0_scratch0
@[inherit_doc s0M] abbrev ldM : Memref sig .tc .vmem S2048x1024 .f32 := Memref.whole cc0_scratch1
@[inherit_doc s0M] abbrev cmM : Memref sig .tc .vmem S3x2048x1024 .f32 := Memref.whole cc0_scratch2

/-- Slot `h` lies inside the slot buffer. -/
theorem slot_inb (h : Fin 3) : ∀ a, (![h.val, 0, 0] : Fin 3 → Nat) a + S1x2048x1024.size a ≤ S3x2048x1024.size a := by revert h; decide +kernel
/-- Slot `h` of the slot buffer. -/
def slotR (h : Fin 3) : Rect S3x2048x1024 := Rect.unit (s := S3x2048x1024) ![h.val, 0, 0] S1x2048x1024.size (slot_inb h)
/-- Slot `h` as a matrix. -/
abbrev slotM (h : Fin 3) : Memref sig .tc .vmem S2048x1024 .f32 :=
  (cmM.slice (slotR h) (fun _ => rfl)).squeeze S2048x1024 squeezes_S1x2048x1024_S2048x1024

/-- Where hop `h` is sent from: the scratch buffer at first, then the slot of the hop before. -/
def srcM (h : Fin 3) : Memref sig .tc .vmem S2048x1024 .f32 := match h with | 0 => s0M | 1 => slotM 0 | 2 => slotM 1

/-- What a transfer of one matrix counts on its semaphore. -/
abbrev N : ℕ := s0M.view.dmaCredit
theorem N_pos : 0 < N := View.dmaCredit_pos _ (by decide +kernel)

/-- A block of 2048 rows and half the columns lies inside the device's matrix. -/
theorem blk_inb (b t : ℕ) : ∀ a, (![2048 * (b % 4), 1024 * (t % 2)] : Fin 2 → Nat) a + S2048x1024.size a ≤ S8192x2048.size a := by
  have e : ∀ b : Fin 4, ∀ t : Fin 2, ∀ a, (![2048 * b.val, 1024 * t.val] : Fin 2 → Nat) a + S2048x1024.size a ≤ S8192x2048.size a := by decide +kernel
  exact e ⟨b % 4, Nat.mod_lt _ (by decide)⟩ ⟨t % 2, Nat.mod_lt _ (by decide)⟩
/-- The device's matrix, and a block of it at an offset. -/
abbrev xM : Memref sig .tc .hbm S8192x2048 .f32 := Memref.whole main_v1
@[inherit_doc xM] abbrev chunk (off : Fin 2 → Nat) (h : ∀ a, off a + S2048x1024.size a ≤ S8192x2048.size a) : Memref sig .tc .hbm S2048x1024 .f32 :=
  xM.slice (Rect.unit (s := S8192x2048) off S2048x1024.size h) (fun _ => rfl)

/-! ## The resource algebra: the pipeline's copy, the ring's rounds, the local copies' counters -/

abbrev RR : Type := URounds (GSem nD τ sig) (Dev nD)
abbrev UU : Type := UR sig nD τ × (RR × Counters)

local notation "𝕄" => MT nD τ sig ℕ (Elt F) ℕ UU ℕ

abbrev EP : Emb (UR sig nD τ) (MT nD τ sig ℕ (Elt F) ℕ UU ℕ) := embL
abbrev ER : Emb RR (MT nD τ sig ℕ (Elt F) ℕ UU ℕ) := (Emb.inl : Emb RR (RR × Counters)).trans embR
abbrev EC : UEmb Counters (MT nD τ sig ℕ (Elt F) ℕ UU ℕ) := countersEmb

variable (m : (ℓ : Loc nD τ sig) → Buf (Elt F) ℓ)

/-! ## The values that travel -/

/-- Block `b` of the rows, half `t` of the columns, of device `c`'s matrix. -/
def blk (c : Dev nD) (b t : ℕ) : Vec F S2048x1024 .f32 :=
  (chunk ![2048 * (b % 4), 1024 * (t % 2)] (blk_inb b t)).view.read (Elt F) (V m c main_v1)

theorem blk_read (c : Dev nD) (b t : ℕ) {off : Fin 2 → Nat} (h : ∀ a, off a + S2048x1024.size a ≤ S8192x2048.size a)
    (e : off = ![2048 * (b % 4), 1024 * (t % 2)]) : (chunk off h).view.read (Elt F) (V m c main_v1) = blk m c b t := by
  subst e; rfl

/-- What device `c` sends at hop `h` of half `t`: its own block at first, then what came in plus its own block. -/
def sent (t : ℕ) : ℕ → Dev nD → Vec F S2048x1024 .f32
  | 0, c => blk m c (yy c + 3) t
  | h + 1, c => addf (sent t h (prv c)) (blk m c (yy c + 6 - h) t)
/-- What comes in at device `c` at hop `h` of half `t`. -/
def got (t h : ℕ) (c : Dev nD) : Vec F S2048x1024 .f32 := sent m t h (prv c)
/-- The finished sums of half `t` of device `c`'s own block. -/
def summed (t : ℕ) (c : Dev nD) : Vec F S2048x1024 .f32 := addf (got m t 2 c) (blk m c (yy c) t)

/-! ## The schedule -/

/-- Device `c`'s memref `M` at contents that read as `v`. -/
def holds (c : Dev nD) {sp : Space} {s : Shape} (M : Memref sig .tc sp s .f32) (v : Vec F s .f32) : sProp 𝕄 :=
  iprop(∃ f : Buf (Elt F) (M.view.loc (c : Thread nD τ)), ⌜M.view.read (Elt F) f = v⌝ ∗ (M.view.loc (c : Thread nD τ) ↦[M.view.set]{fullShare} f))
/-- Device `c`'s memref `M` at some contents. -/
def any (c : Dev nD) {sp : Space} {s : Shape} (M : Memref sig .tc sp s .f32) : sProp 𝕄 :=
  iprop(∃ f : Buf (Elt F) (M.view.loc (c : Thread nD τ)), (M.view.loc (c : Thread nD τ) ↦[M.view.set]{fullShare} f))

/-- Device `c`'s three slots at some contents, with the news that its receive cells are at round `t`. -/
def slots (c : Dev nD) (t : ℕ) : sProp 𝕄 :=
  iprop((any c (slotM 0) ∗ any c (slotM 1) ∗ any c (slotM 2))
    ∗ reached ER (rcvC c 0) t ∗ reached ER (rcvC c 1) t ∗ reached ER (rcvC c 2) t)

instance holds_storable (c : Dev nD) {sp : Space} {s : Shape} (M : Memref sig .tc sp s .f32) (v : Vec F s .f32) :
    BI.Storable (upEmb : UEmb _ 𝕄) (holds c M v) := by unfold holds; infer_instance
instance any_storable (c : Dev nD) {sp : Space} {s : Shape} (M : Memref sig .tc sp s .f32) :
    BI.Storable (upEmb : UEmb _ 𝕄) (any (F := F) c M) := by unfold any; infer_instance
instance slots_storable (c : Dev nD) (t : ℕ) : BI.Storable (upEmb : UEmb _ 𝕄) (slots (F := F) c t) := by unfold slots; infer_instance

/-- Contents that read as `v` are some contents. -/
theorem holds_any (c : Dev nD) {sp : Space} {s : Shape} (M : Memref sig .tc sp s .f32) (v : Vec F s .f32) : holds c M v ⊢ any c M := by
  unfold holds any; iintro ⟨%f, -, H⟩; iexists f; iexact H

/-- The rounds. A duty is named by the device that pays it. The barrier is met by both neighbors once; the right neighbor's unit brings
    its slots. Every hop's semaphores run one round a half: a send returns its source, a receive brings the partial sum. The credit semaphore
    runs one round a half, paid by the right neighbor; the first brings its slots again. -/
def ringRd : Rounds.Schedule (GSem nD τ sig) (Dev nD) 𝕄 where
  duties g r := match role g.2 with
    | .bar => if r = 0 then {nxt g.1.1, prv g.1.1} else ∅
    | .snd _ => if r < 2 then {g.1.1} else ∅
    | .rcv _ => if r < 2 then {prv g.1.1} else ∅
    | .crd => if r < 2 then {nxt g.1.1} else ∅
    | .other => ∅
  amount g _ _ := match role g.2 with
    | .snd _ => N
    | .rcv _ => N
    | _ => 1
  payload g r d := match role g.2 with
    | .bar => if d = nxt g.1.1 then slots (nxt g.1.1) 0 else iprop(emp)
    | .snd h => holds g.1.1 (srcM h) (sent m r h.val g.1.1)
    | .rcv h => iprop(holds g.1.1 (slotM h) (got m r h.val g.1.1) ∗ reached ER (crdC (prv g.1.1)) r)
    | .crd => if r = 0 then slots (nxt g.1.1) 1 else iprop(emp)
    | .other => iprop(emp)
  amount_pos g _ _ _ := by
    cases role g.2 <;> first | exact N_pos | exact Nat.one_pos

instance ringRd_storable (g : GSem nD τ sig) (r : ℕ) (d : Dev nD) :
    BI.Storable (upEmb : UEmb _ 𝕄) ((ringRd (F := F) m).payload g r d) := by
  dsimp only [ringRd]
  cases role g.2 <;> dsimp only <;> (repeat' split) <;> infer_instance

section Sched

variable (c : Dev nD) (h : Fin 3)

theorem duties_bar : (ringRd (F := F) m).duties (barC c) 0 = {nxt c, prv c} := rfl
theorem duties_snd {r : ℕ} (hr : r < 2) : (ringRd (F := F) m).duties (sndC c h) r = {c} := by
  dsimp only [ringRd]; rw [role_snd]; exact if_pos hr
theorem duties_rcv {r : ℕ} (hr : r < 2) : (ringRd (F := F) m).duties (rcvC c h) r = {prv c} := by
  dsimp only [ringRd]; rw [role_rcv]; exact if_pos hr
theorem duties_crd {r : ℕ} (hr : r < 2) : (ringRd (F := F) m).duties (crdC c) r = {nxt c} := by
  dsimp only [ringRd]; rw [role_crd]; exact if_pos hr
theorem duties_bar_later : ∀ r, 1 ≤ r → (ringRd (F := F) m).duties (barC c) r = ∅ := fun r hr => by
  dsimp only [ringRd]; rw [role_bar]; exact if_neg (by omega)
theorem duties_later (g : GSem nD τ sig) : ∀ r, 2 ≤ r → (ringRd (F := F) m).duties g r = ∅ := fun r hr => by
  dsimp only [ringRd]; cases role g.2 <;> dsimp only <;> first | rfl | exact if_neg (by omega)

theorem amount_bar (r : ℕ) (d : Dev nD) : (ringRd (F := F) m).amount (barC c) r d = 1 := rfl
theorem amount_crd (r : ℕ) (d : Dev nD) : (ringRd (F := F) m).amount (crdC c) r d = 1 := rfl
theorem amount_snd (r : ℕ) (d : Dev nD) : (ringRd (F := F) m).amount (sndC c h) r d = N := by dsimp only [ringRd]; rw [role_snd]
theorem amount_rcv (r : ℕ) (d : Dev nD) : (ringRd (F := F) m).amount (rcvC c h) r d = N := by dsimp only [ringRd]; rw [role_rcv]

theorem expect_bar : (ringRd (F := F) m).expect (barC c) 0 = 2 := by
  unfold Schedule.expect Schedule.amountOf
  rw [duties_bar, Finset.sum_pair (nxt_ne_prv c), amount_bar, amount_bar]
theorem expect_snd {r : ℕ} (hr : r < 2) : (ringRd (F := F) m).expect (sndC c h) r = N := by
  unfold Schedule.expect Schedule.amountOf; rw [duties_snd m c h hr, Finset.sum_singleton, amount_snd]
theorem expect_rcv {r : ℕ} (hr : r < 2) : (ringRd (F := F) m).expect (rcvC c h) r = N := by
  unfold Schedule.expect Schedule.amountOf; rw [duties_rcv m c h hr, Finset.sum_singleton, amount_rcv]
theorem expect_crd {r : ℕ} (hr : r < 2) : (ringRd (F := F) m).expect (crdC c) r = 1 := by
  unfold Schedule.expect Schedule.amountOf; rw [duties_crd m c hr, Finset.sum_singleton, amount_crd]

theorem payload_bar_nxt : (ringRd (F := F) m).payload (barC c) 0 (nxt c) = slots (nxt c) 0 := by
  dsimp only [ringRd]; rw [role_bar]; exact if_pos rfl
theorem payload_bar_prv : (ringRd (F := F) m).payload (barC c) 0 (prv c) = iprop(emp) := by
  dsimp only [ringRd]; rw [role_bar]; exact if_neg (nxt_ne_prv c).symm
theorem payload_snd (r : ℕ) (d : Dev nD) : (ringRd (F := F) m).payload (sndC c h) r d = holds c (srcM h) (sent m r h.val c) := by
  dsimp only [ringRd]; rw [role_snd]
theorem payload_rcv (r : ℕ) (d : Dev nD) :
    (ringRd (F := F) m).payload (rcvC c h) r d = iprop(holds c (slotM h) (got m r h.val c) ∗ reached ER (crdC (prv c)) r) := by
  dsimp only [ringRd]; rw [role_rcv]
theorem payload_crd0 (d : Dev nD) : (ringRd (F := F) m).payload (crdC c) 0 d = slots (nxt c) 1 := by
  dsimp only [ringRd]; rw [role_crd]; exact if_pos rfl
theorem payload_crd1 (d : Dev nD) : (ringRd (F := F) m).payload (crdC c) 1 d = iprop(emp) := by
  dsimp only [ringRd]; rw [role_crd]; exact if_neg (by decide)

theorem rest_bar : bigSep ((ringRd (F := F) m).duties (barC c) 0 \ ∅) (fun d => (ringRd (F := F) m).payload (barC c) 0 d)
    = iprop(slots (nxt c) 0 ∗ emp) := by
  rw [Finset.sdiff_empty, duties_bar, bigSep_insert (by rw [Finset.mem_singleton]; exact nxt_ne_prv c), bigSep_singleton, payload_bar_nxt, payload_bar_prv]
  rfl
theorem rest_snd {r : ℕ} (hr : r < 2) : bigSep ((ringRd (F := F) m).duties (sndC c h) r \ ∅) (fun d => (ringRd (F := F) m).payload (sndC c h) r d)
    = holds c (srcM h) (sent m r h.val c) := by
  rw [Finset.sdiff_empty, duties_snd m c h hr, bigSep_singleton, payload_snd]
theorem rest_rcv {r : ℕ} (hr : r < 2) : bigSep ((ringRd (F := F) m).duties (rcvC c h) r \ ∅) (fun d => (ringRd (F := F) m).payload (rcvC c h) r d)
    = iprop(holds c (slotM h) (got m r h.val c) ∗ reached ER (crdC (prv c)) r) := by
  rw [Finset.sdiff_empty, duties_rcv m c h hr, bigSep_singleton, payload_rcv]
theorem rest_crd0 : bigSep ((ringRd (F := F) m).duties (crdC c) 0 \ ∅) (fun d => (ringRd (F := F) m).payload (crdC c) 0 d) = slots (nxt c) 1 := by
  rw [Finset.sdiff_empty, duties_crd m c (by decide), bigSep_singleton, payload_crd0]

end Sched

/-! ## The cells and the tokens; what a device owes -/

/-- The scoped semaphores that run rounds. -/
def dorms : Finset (SemLoc sig) :=
  {.dma (sndS 0), .dma (sndS 1), .dma (sndS 2), .dma (rcvS 0), .dma (rcvS 1), .dma (rcvS 2), .reg crdS}

/-- The duties that device `c` pays: a barrier unit to either neighbor, both sides of every send, the credit of the left neighbor. -/
def pays (c : Dev nD) : List (GSem nD τ sig × ℕ × Dev nD) :=
  [(barC (prv c), 0, c), (barC (nxt c), 0, c),
   (sndC c 0, 0, c), (rcvC (nxt c) 0, 0, c), (sndC c 1, 0, c), (rcvC (nxt c) 1, 0, c), (sndC c 2, 0, c), (rcvC (nxt c) 2, 0, c), (crdC (prv c), 0, c),
   (sndC c 0, 1, c), (rcvC (nxt c) 0, 1, c), (sndC c 1, 1, c), (rcvC (nxt c) 1, 1, c), (sndC c 2, 1, c), (rcvC (nxt c) 2, 1, c), (crdC (prv c), 1, c)]

theorem pays_payer (c : Dev nD) : ∀ x ∈ pays c, x.2.2 = c := by
  intro x hx
  simp only [pays, List.mem_cons, List.not_mem_nil, or_false] at hx
  rcases hx with h | h | h | h | h | h | h | h | h | h | h | h | h | h | h | h <;> rw [h]

/-- The ring's cells and tokens. -/
def fam : Fam nD τ sig (Dev nD) 1 where
  bar := .reg barS
  dorm _ := dorms
  toks c _ := (pays c).toFinset
  semKey _ := 0
  hsem j _ _ := (Fin.fin_one_eq_zero j).symm
  hbar _ := by unfold dorms; decide
  tokKey x := (x.2.2, 0)
  htok c j x hx := by rw [pays_payer c x (List.mem_toFinset.mp hx), Fin.fin_one_eq_zero j]

/-- How many indices there are, one level each: 0 for waits on a device's own transfers, 1 for the barrier, then hop by hop and credit. -/
abbrev NI : ℕ := 10

/-- What device `c` pays to others, in program order. -/
def dues (c : Dev nD) : List (Pay nD τ sig) :=
  [(barC (prv c), 1, 1), (barC (nxt c), 1, 1),
   (rcvC (nxt c) 0, 2, N), (rcvC (nxt c) 1, 3, N), (rcvC (nxt c) 2, 4, N), (crdC (prv c), 5, 1),
   (rcvC (nxt c) 0, 6, N), (rcvC (nxt c) 1, 7, N), (rcvC (nxt c) 2, 8, N), (crdC (prv c), 9, 1)]

/-- What device `c` still owes after its first `n` payments. -/
def O (c : Dev nD) (n : ℕ) : CellTallies nD τ sig ℕ := tallyL ((dues c).drop n)

theorem O_end (c : Dev nD) : O c 10 = 0 := rfl

/-- A wait at index `i` is allowed while everything still owed lies at higher indices. -/
theorem mayWait (c : Dev nD) (s : SemLoc sig) (n i : ℕ) (hi : i < NI) (h : ∀ x ∈ (dues c).drop n, x.1.1.2 = .tc ∧ i < x.2.1 ∧ x.2.1 < NI) :
    (levAts (L NI) lv : sProp 𝕄) ⊢ MayWait (c : Thread nD τ) s i (O c n) :=
  SiteBlocks.mayWait_of hi c s _ fun g k hk => by
    obtain ⟨x, hx, rfl, rfl⟩ := TalkSites.tallyL_pos hk
    obtain ⟨h1, h2, h3⟩ := h x hx
    exact ⟨SiteBlocks.mem_L' h1 h3, h2⟩

/-- The indices still owed after `n` payments: all after the `n`-th. -/
theorem dues_above (c : Dev nD) (n i : ℕ) (hn : ∀ k, n ≤ k → k < 10 → i < ([1, 1, 2, 3, 4, 5, 6, 7, 8, 9] : List ℕ).getD k 0) :
    ∀ x ∈ (dues c).drop n, x.1.1.2 = .tc ∧ i < x.2.1 ∧ x.2.1 < NI := by
  intro x hx
  obtain ⟨k, hk, rfl⟩ := List.getElem_of_mem hx
  rw [List.length_drop] at hk
  have hl : (dues c).length = 10 := rfl
  have hk' : n + k < 10 := by omega
  have h1 := hn (n + k) (Nat.le_add_right _ _) hk'
  have key : ∀ j : Fin 10, ((dues c)[j.val]'(by rw [hl]; exact j.isLt)).1.1.2 = .tc
      ∧ ((dues c)[j.val]'(by rw [hl]; exact j.isLt)).2.1 = ([1, 1, 2, 3, 4, 5, 6, 7, 8, 9] : List ℕ).getD j.val 0 := by
    intro j; fin_cases j <;> exact ⟨rfl, rfl⟩
  have low : ∀ j : Fin 10, ([1, 1, 2, 3, 4, 5, 6, 7, 8, 9] : List ℕ).getD j.val 0 < 10 := by decide
  obtain ⟨a, b⟩ := key ⟨n + k, hk'⟩
  simp only [List.getElem_drop]
  exact ⟨a, by rw [b]; exact h1, by rw [b]; exact low ⟨n + k, hk'⟩⟩

end Cert.KernelIdeal.Ring

end
-- ==== Proof.RingIdeal.Steps.lean ====
/- The operations of the ring kernel, one rule each, at a symbolic device `c`, hop `h` and half `t`: what an operation takes and what it gives back. -/
module

public import proofs.«01_k».proof.Proof.RingIdeal.Proto
public import Idealize.ShloMosaic.Lib.Pipeline.Value
public import Idealize.ShloMosaic.Lib.VecWindow
public import Idealize.ShloMosaic.Lib.Pointwise.Index

@[expose] public section

set_option maxRecDepth 16384

noncomputable section

namespace Cert.KernelIdeal.Ring

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.TalkSites (Pay tallyL Fam)
open Idealize.ShloMosaic.SiteBlocks (L lv)
open Idealize.ShloMosaic.Transfers (wp_dmaLocal wp_waitLocalO)

variable {F : FTy → Type} [FloatOps F]

local notation "𝕄" => MT nD τ sig ℕ (Elt F) ℕ UU ℕ

variable (m : (ℓ : Loc nD τ sig) → Buf (Elt F) ℓ)

abbrev 𝒱₀ : Variants := Variants.none

/-- A device's run of a program. -/
abbrev run (c : Dev nD) {α : Type} (P : Prog (TpuEff nD τ sig (Elt F) Λ₀ .tc) α) (Q : α → sProp 𝕄) : sProp 𝕄 :=
  wp frame (wpE (defs₀ (F := F)) 𝒱₀ (c : Thread nD τ) none) Set.univ P Q

/-- The ring's invariants at the names `K`, and the levels. -/
def invs (K : GSem nD τ sig → ℕ) : sProp 𝕄 := iprop(fam.cellInvs ER (ringRd m) K ∗ levAts (L NI) lv)
instance invs_persistent (K : GSem nD τ sig → ℕ) : BI.Persistent (invs m K) := by unfold invs; infer_instance

/-- Device `c` still owes what comes after its first `n` payments. -/
def ow (c : Dev nD) (n : ℕ) : sProp 𝕄 := iprop(∃ W, owes (c : Thread nD τ) (O c n) W)

section

variable (K : GSem nD τ sig → ℕ) (c : Dev nD) (h : Fin 3)

theorem inv_bar : invs m K ⊢ cellInv ER (ringRd m) (K (barC c)) (barC c) := by
  unfold invs; iintro ⟨H, -⟩; iapply (fam.cellInvs_bar ER (ringRd m) K c); iexact H
theorem inv_dorm {sm : SemLoc sig} (hs : sm ∈ dorms) : invs m K ⊢ cellInv ER (ringRd m) (K ((c : Thread nD τ), sm)) ((c : Thread nD τ), sm) := by
  unfold invs; iintro ⟨H, -⟩; iapply (fam.cellInvs_dorm ER (ringRd m) K c (j := 0) hs); iexact H
theorem snd_dorm : SemLoc.dma (sndS h) ∈ dorms := by unfold dorms; revert h; decide
theorem rcv_dorm : SemLoc.dma (rcvS h) ∈ dorms := by unfold dorms; revert h; decide
theorem crd_dorm : (SemLoc.reg crdS : SemLoc sig) ∈ dorms := by unfold dorms; decide
theorem invs_lev : invs m K ⊢ levAts (L NI) lv := by unfold invs; iintro ⟨-, H⟩; iexact H

/-- A wait on a device's own transfer is allowed whatever it owes. -/
theorem mayWait0 (s : SemLoc sig) (n : ℕ) : (levAts (L NI) lv : sProp 𝕄) ⊢ MayWait (c : Thread nD τ) s 0 (O c n) :=
  mayWait c s n 0 (by decide) (dues_above c n 0 fun k _ hk => by
    have e : ∀ j : Fin 10, 0 < ([1, 1, 2, 3, 4, 5, 6, 7, 8, 9] : List ℕ).getD j.val 0 := by decide
    exact e ⟨k, hk⟩)

theorem holds_intro {sp : Space} {s : Shape} (M : Memref sig .tc sp s .f32) (v : Vec F s .f32) (f : Buf (Elt F) (M.view.loc (c : Thread nD τ)))
    (e : M.view.read (Elt F) f = v) : (M.view.loc (c : Thread nD τ) ↦[M.view.set]{fullShare} f) ⊢ holds c M v := by
  unfold holds; iintro H; iexists f; isplitr; · ipureintro; exact e
  iexact H

variable {α : Type} {Q : α → sProp (MT nD τ sig ℕ (Elt F) ℕ UU ℕ)}

/-! ## A local copy of a block -/

/-- The device's own matrix, whole. -/
def xs : sProp 𝕄 := iprop((c : Thread nD τ).loc main_v1 ↦{fullShare} V m c main_v1)

/-- A block is copied in and waited for: the landing buffer reads as the block. -/
theorem step_chunk {n : ℕ} {src srcw : Memref sig .tc .hbm S2048x1024 .f32} {dst : Memref sig .tc .vmem S2048x1024 .f32} {sm sm' : DmaSem sig}
    (off : Fin 2 → Nat) (hoff : ∀ a, off a + S2048x1024.size a ≤ S8192x2048.size a) (b t : ℕ) (hsrc : src = chunk off hoff)
    (e : off = ![2048 * (b % 4), 1024 * (t % 2)]) (hsm : sm = ldS) (hsm' : sm' = ldS) (hN : dst.view.dmaCredit = N)
    {h1 : src.view.WordExact} {h2 : dst.view.WordExact} {h3 : DmaTarget.Typed .hbm (.dma sm) (DmaTarget.here dst : DmaTarget nD τ sig .tc .vmem S2048x1024 .f32)}
    {h4 : srcw.view.WordExact} {h5 : dst.view.WordExact} {k : PUnit → Prog (TpuEff nD τ sig (Elt F) Λ₀ .tc) α} :
    iprop(invs m K ∗ xs m c ∗ any c dst ∗ semVal ((c : Thread nD τ), .dma ldS) 0 ∗ ow c n)
      ⊢ iprop(((xs m c ∗ holds c dst (blk m c b t) ∗ semVal ((c : Thread nD τ), .dma ldS) 0 ∗ ow c n) -∗ run c (k ⟨⟩) Q)
        -∗ run c (.op (.enqueueDma src (.here dst) (.dma sm) h1 h2 h3) fun _ => .op (.waitDma2 sm' srcw dst h4 h5) k) Q) := by
  subst hsm hsm' hsrc
  unfold xs any ow
  iintro ⟨#HI, Hx, ⟨%fd, Hd⟩, Hv, ⟨%W, HO⟩⟩ Hk
  ihave Hx2 := (pointsTo_split_subset (Finset.subset_univ (chunk off hoff).view.set)).1 $$ Hx
  icases Hx2 with ⟨Hx, Hr⟩
  iapply (wp_dmaLocal EC 𝒱₀ (c : Thread nD τ) none (src := chunk off hoff) (dst := dst) (sm := .dma ldS) (fs := V m c main_v1) 0 N hN N_pos (Finset.Subset.refl _)) $$ [Hx Hd Hv]
  · isplitl [Hx]; · iexact Hx
    isplitl [Hd] <;> iassumption
  iintro Hf
  iapply (wp_waitLocalO EC 𝒱₀ (c : Thread nD τ) none 0 hN (O := O c n) (W := W)) $$ [Hf HO]
  · isplitl [Hf]; · iexact Hf
    isplitl [HO]; · iexact HO
    iapply (mayWait0 c (.dma ldS) n); iapply (invs_lev m K); iexact HI
  iintro ⟨⟨Hd, Hx⟩, Hv, HO⟩
  iapply Hk
  isplitl [Hx Hr]
  · iapply (pointsTo_split_subset (Finset.subset_univ (chunk off hoff).view.set)).2
    isplitl [Hx] <;> iassumption
  isplitl [Hd]
  · iapply (holds_intro c dst _ _ (by rw [View.read_write_univ]; exact blk_read m c b t hoff e)) $$ Hd
  isplitl [Hv]; · iexact Hv
  iexists _; iexact HO

/-! ## A hop -/

/-- A hop is sent: the source goes with it, the news of the credit semaphore rides along, and one payment less is owed. -/
theorem step_send {n i : ℕ} (t : ℕ) (ht : t < 2) (hn : O c n = O c (n + 1) + tallyAt (rcvC (nxt c) h) i N)
    {src dst : Memref sig .tc .vmem S2048x1024 .f32} {sS sR : DmaSem sig} {dv : Dev nD}
    (hsrc : src = srcM h) (hdst : dst = slotM h) (hsS : sS = sndS h) (hsR : sR = rcvS h) (hdv : dv = nxt c)
    {hsc : dst.view.ref.isScScratch = false} {h1 : src.view.WordExact} {h2 : dst.view.WordExact}
    {h3 : DmaTarget.Typed .vmem (.dma sR) (DmaTarget.remote (Dev.tc dv) dst (.dma sS) hsc : DmaTarget nD τ sig .tc .vmem S2048x1024 .f32)}
    {k : PUnit → Prog (TpuEff nD τ sig (Elt F) Λ₀ .tc) α} :
    iprop(invs m K ∗ holds c (srcM h) (sent m t h.val c) ∗ any (nxt c) (slotM h) ∗ reached ER (crdC c) t ∗ ow c n
        ∗ dutyTok ER (sndC c h) t c ∗ reached ER (sndC c h) t ∗ dutyTok ER (rcvC (nxt c) h) t c ∗ reached ER (rcvC (nxt c) h) t)
      ⊢ iprop(((cred (tallyAt (sndC c h) 0 N) ∗ ow c (n + 1)) -∗ run c (k ⟨⟩) Q)
        -∗ run c (.op (.enqueueDma src (.remote (Dev.tc dv) dst (.dma sS) hsc) (.dma sR) h1 h2 h3) k) Q) := by
  subst hsrc hdst hsS hsR hdv
  unfold holds any ow
  iintro ⟨#HI, ⟨%fs, %hfs, Hs⟩, ⟨%fd, Hd⟩, Hcr, ⟨%W, HO⟩, Ht1, Hr1, Ht2, Hr2⟩ Hk
  iapply (Rounds.wp_send_pointsTo_with 𝒱₀ ER (ringRd m) (c : Thread nD τ) none (c' := (nxt c : Thread nD τ)) (src := srcM h) (dst := slotM h)
      (sS := .dma (sndS h)) (sem := .dma (rcvS h)) (q := fullShare) (fs := fs) (fd := fd) (F := reached ER (crdC c) t)
      (κ₁ := K (sndC c h)) (κ₂ := K (rcvC (nxt c) h)) (r₁ := t) (r₂ := t) (d₁ := c) (d₂ := c)
      (by rw [duties_snd m c h ht]; exact Finset.mem_singleton_self _)
      (by rw [duties_rcv m (nxt c) h ht, prv_nxt]; exact Finset.mem_singleton_self _)
      i 0 N rfl (amount_snd m c h t c) (amount_rcv m (nxt c) h t c) (O c (n + 1)) hn (W := W)
      (by rw [payload_snd]; exact holds_intro c (srcM h) _ fs hfs)
      (by
        rw [payload_rcv, prv_nxt]
        refine sep_mono_left (holds_intro (nxt c) (slotM h) _ _ ?_)
        rw [View.read_write_univ, hfs]; unfold got; rw [prv_nxt])) $$ [Hs Hd Hcr HO Ht1 Hr1 Ht2 Hr2]
  · isplitr; · iapply (inv_dorm m K c (snd_dorm h)); iexact HI
    isplitr; · iapply (inv_dorm m K (nxt c) (rcv_dorm h)); iexact HI
    isplitl [Hs]; · iexact Hs
    isplitl [Hd Hcr]
    · isplitl [Hd] <;> iassumption
    isplitl [HO]; · iexact HO
    isplitl [Ht1]; · iexact Ht1
    isplitl [Hr1]; · iexact Hr1
    isplitl [Ht2] <;> iassumption
  iintro ⟨Hc, HO⟩
  iapply Hk
  isplitl [Hc]; · iexact Hc
  iexists W; iexact HO

/-- A send is waited for: its source comes back. -/
theorem step_sent {n : ℕ} (t : ℕ) (ht : t < 2) {src dst : Memref sig .tc .vmem S2048x1024 .f32} {sS : DmaSem sig}
    (hsS : sS = sndS h) (hN : dst.view.dmaCredit = N) {h1 : src.view.WordExact} {h2 : dst.view.WordExact}
    {k : PUnit → Prog (TpuEff nD τ sig (Elt F) Λ₀ .tc) α} :
    iprop(invs m K ∗ cred (tallyAt (sndC c h) 0 N) ∗ ow c n ∗ atPos ER (sndC c h) t ∅ 0)
      ⊢ iprop(((ow c n ∗ atPos ER (sndC c h) (t + 1) ∅ 0 ∗ reached ER (sndC c h) (t + 1) ∗ holds c (srcM h) (sent m t h.val c)) -∗ run c (k ⟨⟩) Q)
        -∗ run c (.op (.waitDma2 sS src dst h1 h2) k) Q) := by
  subst hsS
  unfold ow
  iintro ⟨#HI, Hc, ⟨%W, HO⟩, Hat⟩ Hk
  iapply (Rounds.wp_wait_rest_token 𝒱₀ ER (ringRd m) (c : Thread nD τ) none (κ := K (sndC c h)) (k' := dst.view.dmaCredit)
      (wpE_waitDma2_eq 𝒱₀ (c : Thread nD τ) none Set.univ) (Set.mem_univ _) 0 (O := O c n) (W := W) (R := t) (m := 0) (T := ∅)
      (by rw [Nat.zero_add, expect_snd m c h ht, hN])) $$ [Hc HO Hat]
  · isplitr; · iapply (inv_dorm m K c (snd_dorm h)); iexact HI
    isplitl [Hc]; · rw [hN]; iexact Hc
    isplitl [HO]; · iexact HO
    isplitr; · iapply (mayWait0 c _ n); iapply (invs_lev m K); iexact HI
    iexact Hat
  iintro ⟨HO, Hat, Hr, Hpay⟩
  ihave Hp := (Entails.of_eq (rest_snd m c h ht)) $$ Hpay
  iapply Hk
  isplitl [HO]; · iexists _; iexact HO
  isplitl [Hat]; · iexact Hat
  isplitl [Hr] <;> iassumption

/-- A hop is received: the slot comes back with the partial sum, and with the news of the left neighbor's credit semaphore. -/
theorem step_rcvd {n i : ℕ} (t : ℕ) (ht : t < 2) (hw : (levAts (L NI) lv : sProp 𝕄) ⊢ MayWait (c : Thread nD τ) (.dma (rcvS h)) i (O c n))
    {src dst : Memref sig .tc .vmem S2048x1024 .f32} {sR : DmaSem sig} (hsR : sR = rcvS h) (hN : dst.view.dmaCredit = N)
    {h1 : src.view.WordExact} {h2 : dst.view.WordExact} {k : PUnit → Prog (TpuEff nD τ sig (Elt F) Λ₀ .tc) α} :
    iprop(invs m K ∗ cred (tallyAt (rcvC c h) i N) ∗ ow c n ∗ atPos ER (rcvC c h) t ∅ 0)
      ⊢ iprop(((ow c n ∗ atPos ER (rcvC c h) (t + 1) ∅ 0 ∗ reached ER (rcvC c h) (t + 1) ∗ holds c (slotM h) (got m t h.val c) ∗ reached ER (crdC (prv c)) t) -∗ run c (k ⟨⟩) Q)
        -∗ run c (.op (.waitDma2 sR src dst h1 h2) k) Q) := by
  subst hsR
  unfold ow
  iintro ⟨#HI, Hc, ⟨%W, HO⟩, Hat⟩ Hk
  iapply (Rounds.wp_wait_rest_token 𝒱₀ ER (ringRd m) (c : Thread nD τ) none (κ := K (rcvC c h)) (k' := dst.view.dmaCredit)
      (wpE_waitDma2_eq 𝒱₀ (c : Thread nD τ) none Set.univ) (Set.mem_univ _) i (O := O c n) (W := W) (R := t) (m := 0) (T := ∅)
      (by rw [Nat.zero_add, expect_rcv m c h ht, hN])) $$ [Hc HO Hat]
  · isplitr; · iapply (inv_dorm m K c (rcv_dorm h)); iexact HI
    isplitl [Hc]; · rw [hN]; iexact Hc
    isplitl [HO]; · iexact HO
    isplitr; · iapply hw; iapply (invs_lev m K); iexact HI
    iexact Hat
  iintro ⟨HO, Hat, Hr, Hpay⟩
  ihave Hp := (Entails.of_eq (rest_rcv m c h ht)) $$ Hpay
  iapply Hk
  isplitl [HO]; · iexists _; iexact HO
  isplitl [Hat]; · iexact Hat
  isplitl [Hr] <;> iassumption

/-! ## Signals and waits on the regular semaphores -/

/-- One unit is paid to a regular semaphore of device `d`, in round `r`. -/
theorem step_signal {n i r : ℕ} {s s' : Sem sig} {d dv : Dev nD} (hs : s' = s) (hdv : dv = d)
    (hd : c ∈ (ringRd (F := F) m).duties ((d : Thread nD τ), .reg s) r) (ha : (ringRd (F := F) m).amount ((d : Thread nD τ), .reg s) r c = 1)
    (hinv : invs m K ⊢ cellInv ER (ringRd m) (K ((d : Thread nD τ), .reg s)) ((d : Thread nD τ), .reg s))
    (hn : O c n = O c (n + 1) + tallyAt ((d : Thread nD τ), .reg s) i 1)
    {k : PUnit → Prog (TpuEff nD τ sig (Elt F) Λ₀ .tc) α} :
    iprop(invs m K ∗ ow c n ∗ dutyTok ER ((d : Thread nD τ), .reg s) r c ∗ (ringRd m).payload ((d : Thread nD τ), .reg s) r c
        ∗ reached ER ((d : Thread nD τ), .reg s) r)
      ⊢ iprop((ow c (n + 1) -∗ run c (k ⟨⟩) Q) -∗ run c (.op (.semSignal (dv, Proc.tc) s' (1#32).toInt) k) Q) := by
  subst hs hdv
  unfold ow
  iintro ⟨#HI, ⟨%W, HO⟩, Ht, Hp, Hr⟩ Hk
  iapply (Rounds.wp_signal 𝒱₀ ER (ringRd m) (c : Thread nD τ) none (dst := (dv : Thread nD τ)) (κ := K ((dv : Thread nD τ), .reg s'))
      hd (ha.trans (by decide)) i (O c (n + 1)) hn (W := W)) $$ [HO Ht Hp Hr]
  · isplitr; · iapply hinv; iexact HI
    isplitl [HO]; · iexact HO
    isplitl [Ht]; · iexact Ht
    isplitl [Hp] <;> iassumption
  iintro HO
  iapply Hk
  iexists W; iexact HO

/-- The rest of round `r` of the device's own regular semaphore is waited for. -/
theorem step_wait {n i r a : ℕ} {s s' : Sem sig} {w : BitVec 32} (hs : s' = s) (hwd : w.toInt = (a : ℤ))
    (ha : (ringRd (F := F) m).expect ((c : Thread nD τ), .reg s) r = a)
    (hinv : invs m K ⊢ cellInv ER (ringRd m) (K ((c : Thread nD τ), .reg s)) ((c : Thread nD τ), .reg s))
    (hw : (levAts (L NI) lv : sProp 𝕄) ⊢ MayWait (c : Thread nD τ) (.reg s) i (O c n))
    {k : PUnit → Prog (TpuEff nD τ sig (Elt F) Λ₀ .tc) α} :
    iprop(invs m K ∗ cred (tallyAt ((c : Thread nD τ), .reg s) i a) ∗ ow c n ∗ atPos ER ((c : Thread nD τ), .reg s) r ∅ 0)
      ⊢ iprop(((ow c n ∗ atPos ER ((c : Thread nD τ), .reg s) (r + 1) ∅ 0 ∗ reached ER ((c : Thread nD τ), .reg s) (r + 1)
            ∗ bigSep ((ringRd m).duties ((c : Thread nD τ), .reg s) r \ ∅) fun d => (ringRd m).payload ((c : Thread nD τ), .reg s) r d) -∗ run c (k ⟨⟩) Q)
        -∗ run c (.op (.semWait s' w.toInt) k) Q) := by
  subst hs
  unfold ow
  iintro ⟨#HI, Hc, ⟨%W, HO⟩, Hat⟩ Hk
  rw [hwd]
  iapply (Rounds.wp_wait_rest_token 𝒱₀ ER (ringRd m) (c : Thread nD τ) none (κ := K ((c : Thread nD τ), .reg s'))
      (wpE_semWait_eq 𝒱₀ (c : Thread nD τ) none Set.univ) (Set.mem_univ _) i (O := O c n) (W := W) (R := r) (m := 0) (T := ∅)
      (by rw [Nat.zero_add, ha])) $$ [Hc HO Hat]
  · isplitr; · iapply hinv; iexact HI
    isplitl [Hc]; · iexact Hc
    isplitl [HO]; · iexact HO
    isplitr; · iapply hw; iapply (invs_lev m K); iexact HI
    iexact Hat
  iintro ⟨HO, Hat, Hr, Hpay⟩
  iapply Hk
  isplitl [HO]; · iexists _; iexact HO
  isplitl [Hat]; · iexact Hat
  isplitl [Hr] <;> iassumption

/-! ## Adding a block to a slot -/

theorem slot_set : (slotM h).view.set = (cmM.access (slotR h)).set := by
  show ((cmM.access (slotR h)).reshape _ _).set = _
  rw [View.set_reshape]

theorem slot_read (f : Buf (Elt F) (cmM.view.loc (c : Thread nD τ))) :
    (slotM h).view.read (Elt F) f = shapeCast S2048x1024 (cmM.view.readAt (Elt F) (slotR h).toLoadRect f) shapeCasts_S1x2048x1024_S2048x1024 := rfl

theorem slot_write (f : Buf (Elt F) (cmM.view.loc (c : Thread nD τ))) (w : Vec F S1x2048x1024 .f32) :
    (slotM h).view.read (Elt F) ((cmM.access (slotR h)).write (Elt F) f w Finset.univ) = shapeCast S2048x1024 w shapeCasts_S1x2048x1024_S2048x1024 :=
  (slot_read c h _).trans (congrArg (fun u : Vec F S1x2048x1024 .f32 => shapeCast S2048x1024 u shapeCasts_S1x2048x1024_S2048x1024)
    ((View.readAt_rect (v := cmM.view) (Val := Elt F) (slotR h) _).trans (View.read_write_univ (v := cmM.access (slotR h)) f w)))

theorem whole_read (f : Buf (Elt F) (ldM.view.loc (c : Thread nD τ))) :
    ldM.view.readAt (Elt F) (Rect.unit (s := S2048x1024) ![0, 0] S2048x1024.size inb_S2048x1024_S2048x1024_0_0).toLoadRect f = ldM.view.read (Elt F) f := by
  have hz : (![0, 0] : Fin 2 → Nat) = fun _ => 0 := by funext a; fin_cases a <;> rfl
  exact Memref.readAt_unit_zero (Elt F) cc0_scratch1 hz inb_S2048x1024_S2048x1024_0_0 f

/-- The block in the landing buffer is added to what the slot holds. -/
theorem step_acc {pay : Vec F S1x2048x1024 .f32 → Vec F S2048x1024 .f32 → Vec F S1x2048x1024 .f32} (v w : Vec F S2048x1024 .f32)
    (hpay : ∀ a b, shapeCast S2048x1024 (pay a b) shapeCasts_S1x2048x1024_S2048x1024 = addf (shapeCast S2048x1024 a shapeCasts_S1x2048x1024_S2048x1024) b)
    {h1 h3 : cmM.view.LoadsAt (slotR h).toLoadRect}
    {h2 : ldM.view.LoadsAt (Rect.unit (s := S2048x1024) ![0, 0] S2048x1024.size inb_S2048x1024_S2048x1024_0_0).toLoadRect}
    {h4 : (cmM.access (slotR h)).Stores Finset.univ} {h5 : (Finset.univ : Finset (slotR h).shape.Idx) = Finset.univ ∨ ∀ a, (slotR h).stride a = 1}
    {k : PUnit → Prog (TpuEff nD τ sig (Elt F) Λ₀ .tc) α} :
    iprop(holds c (slotM h) v ∗ holds c ldM w)
      ⊢ iprop(((holds c (slotM h) (addf v w) ∗ holds c ldM w) -∗ run c (k ⟨⟩) Q)
        -∗ run c (.op (.load cmM (slotR h).toLoadRect h1) fun a =>
            .op (.load ldM (Rect.unit (s := S2048x1024) ![0, 0] S2048x1024.size inb_S2048x1024_S2048x1024_0_0).toLoadRect h2) fun b =>
            .op (.load cmM (slotR h).toLoadRect h3) fun _ =>
            .op (.store cmM (slotR h) (pay a b) Finset.univ h4 h5) k) Q) := by
  have hS : cmM.view.setOn (slotR h).toLoadRect.set ⊆ (slotM h).view.set := by
    rw [slot_set]; exact (View.set_slice (v := cmM.view) (slotR h) ▸ Finset.Subset.refl _)
  unfold holds
  iintro ⟨⟨%f, %hf, Hs⟩, ⟨%g, %hg, Hd⟩⟩ Hk
  iapply (wp_load 𝒱₀ (c : Thread nD τ) none Set.univ (m := cmM) hS) $$ Hs; iintro Hs
  iapply (wp_load 𝒱₀ (c : Thread nD τ) none Set.univ (m := ldM) (S := ldM.view.set) (by rw [View.set_whole]; exact Finset.subset_univ _)) $$ Hd; iintro Hd
  iapply (wp_load 𝒱₀ (c : Thread nD τ) none Set.univ (m := cmM) hS) $$ Hs; iintro Hs
  iapply (wp_store 𝒱₀ (c : Thread nD τ) none Set.univ (m := cmM) (r := slotR h) (Mk := Finset.univ) (S := (slotM h).view.set) (by rw [slot_set]; exact Finset.Subset.refl _)) $$ Hs; iintro Hs
  iapply Hk
  isplitl [Hs]
  · iexists _
    isplitr
    swap
    · iexact Hs
    · ipureintro
      refine (slot_write c h _ _).trans ((hpay _ _).trans ?_)
      exact congrArg₂ addf ((slot_read c h f).symm.trans hf) ((whole_read c g).trans hg)
  · iexists g
    isplitr
    · ipureintro; exact hg
    · iexact Hd

/-! ## The result -/

/-- The result's staging buffer and the scale's. -/
abbrev oM : Memref sig .tc .vmem S2048x2048 .f32 := Memref.whole cc0_stg1_0
@[inherit_doc oM] abbrev gM : Memref sig .tc .vmem S1x2048 .f32 := Memref.whole cc0_stg0_0

/-- The block in the landing buffer is added to what the last slot holds, into a half of the result's staging buffer. -/
theorem step_out {off : Fin 2 → Nat} {inb : ∀ a, off a + S2048x1024.size a ≤ S2048x2048.size a}
    {pay : Vec F S1x2048x1024 .f32 → Vec F S2048x1024 .f32 → Vec F S2048x1024 .f32} (v w : Vec F S2048x1024 .f32)
    (f : Buf (Elt F) ((c : Thread nD τ).loc cc0_stg1_0))
    (hpay : ∀ a b, pay a b = addf (shapeCast S2048x1024 a shapeCasts_S1x2048x1024_S2048x1024) b)
    {h1 : cmM.view.LoadsAt (slotR h).toLoadRect}
    {h2 : ldM.view.LoadsAt (Rect.unit (s := S2048x1024) ![0, 0] S2048x1024.size inb_S2048x1024_S2048x1024_0_0).toLoadRect}
    {h3 : oM.view.LoadsAt (Rect.unit (s := S2048x2048) off S2048x1024.size inb).toLoadRect}
    {h4 : (oM.access (Rect.unit (s := S2048x2048) off S2048x1024.size inb)).Stores Finset.univ}
    {h5 : (Finset.univ : Finset (Rect.unit (s := S2048x2048) off S2048x1024.size inb).shape.Idx) = Finset.univ
      ∨ ∀ a, (Rect.unit (s := S2048x2048) off S2048x1024.size inb).stride a = 1}
    {k : PUnit → Prog (TpuEff nD τ sig (Elt F) Λ₀ .tc) α} :
    iprop(holds c (slotM h) v ∗ holds c ldM w ∗ ((c : Thread nD τ).loc cc0_stg1_0 ↦{fullShare} f))
      ⊢ iprop(((holds c (slotM h) v ∗ holds c ldM w ∗ ((c : Thread nD τ).loc cc0_stg1_0 ↦{fullShare}
            ((oM.access (Rect.unit (s := S2048x2048) off S2048x1024.size inb)).write (Elt F) f (addf v w) Finset.univ))) -∗ run c (k ⟨⟩) Q)
        -∗ run c (.op (.load cmM (slotR h).toLoadRect h1) fun a =>
            .op (.load ldM (Rect.unit (s := S2048x1024) ![0, 0] S2048x1024.size inb_S2048x1024_S2048x1024_0_0).toLoadRect h2) fun b =>
            .op (.load oM (Rect.unit (s := S2048x2048) off S2048x1024.size inb).toLoadRect h3) fun _ =>
            .op (.store oM (Rect.unit (s := S2048x2048) off S2048x1024.size inb) (pay a b) Finset.univ h4 h5) k) Q) := by
  have hS : cmM.view.setOn (slotR h).toLoadRect.set ⊆ (slotM h).view.set := by
    rw [slot_set]; exact (View.set_slice (v := cmM.view) (slotR h) ▸ Finset.Subset.refl _)
  unfold holds
  iintro ⟨⟨%fs, %hf, Hs⟩, ⟨%g, %hg, Hd⟩, Ho⟩ Hk
  iapply (wp_load 𝒱₀ (c : Thread nD τ) none Set.univ (m := cmM) hS) $$ Hs; iintro Hs
  iapply (wp_load 𝒱₀ (c : Thread nD τ) none Set.univ (m := ldM) (S := ldM.view.set) (by rw [View.set_whole]; exact Finset.subset_univ _)) $$ Hd; iintro Hd
  iapply (wp_load 𝒱₀ (c : Thread nD τ) none Set.univ (m := oM) (S := Finset.univ) (Finset.subset_univ _)) $$ Ho; iintro Ho
  iapply (wp_store 𝒱₀ (c : Thread nD τ) none Set.univ (m := oM) (r := Rect.unit (s := S2048x2048) off S2048x1024.size inb)
    (Mk := Finset.univ) (S := Finset.univ) (Finset.subset_univ _)) $$ Ho; iintro Ho
  have e : pay (cmM.view.readAt (Elt F) (slotR h).toLoadRect fs)
      (ldM.view.readAt (Elt F) (Rect.unit (s := S2048x1024) ![0, 0] S2048x1024.size inb_S2048x1024_S2048x1024_0_0).toLoadRect g) = addf v w :=
    (hpay _ _).trans (congrArg₂ addf ((slot_read c h fs).symm.trans hf) ((whole_read c g).trans hg))
  iapply Hk
  isplitl [Hs]
  · iexists fs
    isplitr
    · ipureintro; exact hf
    · iexact Hs
  isplitl [Hd]
  · iexists g
    isplitr
    · ipureintro; exact hg
    · iexact Hd
  iapply (Entails.of_eq (congrArg (fun x => ((c : Thread nD τ).loc cc0_stg1_0 ↦{fullShare}
    ((oM.access (Rect.unit (s := S2048x2048) off S2048x1024.size inb)).write (Elt F) f x Finset.univ) : sProp 𝕄)) e)) $$ Ho

/-- The last computation replaces the result's staging buffer by a function of it and of the scale. -/
theorem step_final {pay : Vec F S2048x2048 .f32 → Vec F S1x2048 .f32 → Vec F S2048x2048 .f32}
    (f : Buf (Elt F) ((c : Thread nD τ).loc cc0_stg1_0)) (g : Buf (Elt F) ((c : Thread nD τ).loc cc0_stg0_0))
    {h1 h3 : oM.view.LoadsAt (Rect.unit (s := S2048x2048) ![0, 0] S2048x2048.size inb_S2048x2048_S2048x2048_0_0).toLoadRect}
    {h2 : gM.view.LoadsAt (Rect.unit (s := S1x2048) ![0, 0] S1x2048.size inb_S1x2048_S1x2048_0_0).toLoadRect}
    {h4 : (oM.access (Rect.unit (s := S2048x2048) ![0, 0] S2048x2048.size inb_S2048x2048_S2048x2048_0_0)).Stores Finset.univ}
    {h5 : (Finset.univ : Finset (Rect.unit (s := S2048x2048) ![0, 0] S2048x2048.size inb_S2048x2048_S2048x2048_0_0).shape.Idx) = Finset.univ
      ∨ ∀ a, (Rect.unit (s := S2048x2048) ![0, 0] S2048x2048.size inb_S2048x2048_S2048x2048_0_0).stride a = 1}
    {k : PUnit → Prog (TpuEff nD τ sig (Elt F) Λ₀ .tc) α} :
    iprop(((c : Thread nD τ).loc cc0_stg0_0 ↦{fullShare} g) ∗ ((c : Thread nD τ).loc cc0_stg1_0 ↦{fullShare} f))
      ⊢ iprop(((((c : Thread nD τ).loc cc0_stg0_0 ↦{fullShare} g) ∗ ((c : Thread nD τ).loc cc0_stg1_0 ↦{fullShare} (pay f g))) -∗ run c (k ⟨⟩) Q)
        -∗ run c (.op (.load oM (Rect.unit (s := S2048x2048) ![0, 0] S2048x2048.size inb_S2048x2048_S2048x2048_0_0).toLoadRect h1) fun a =>
            .op (.load gM (Rect.unit (s := S1x2048) ![0, 0] S1x2048.size inb_S1x2048_S1x2048_0_0).toLoadRect h2) fun b =>
            .op (.load oM (Rect.unit (s := S2048x2048) ![0, 0] S2048x2048.size inb_S2048x2048_S2048x2048_0_0).toLoadRect h3) fun _ =>
            .op (.store oM (Rect.unit (s := S2048x2048) ![0, 0] S2048x2048.size inb_S2048x2048_S2048x2048_0_0) (pay a b) Finset.univ h4 h5) k) Q) := by
  have hz : (![0, 0] : Fin 2 → Nat) = fun _ => 0 := by funext a; fin_cases a <;> rfl
  iintro ⟨Hg, Ho⟩ Hk
  iapply (wp_load 𝒱₀ (c : Thread nD τ) none Set.univ (m := oM) (S := Finset.univ) (Finset.subset_univ _)) $$ Ho; iintro Ho
  iapply (wp_load 𝒱₀ (c : Thread nD τ) none Set.univ (m := gM) (S := Finset.univ) (Finset.subset_univ _)) $$ Hg; iintro Hg
  iapply (wp_load 𝒱₀ (c : Thread nD τ) none Set.univ (m := oM) (S := Finset.univ) (Finset.subset_univ _)) $$ Ho; iintro Ho
  iapply (wp_store 𝒱₀ (c : Thread nD τ) none Set.univ (m := oM)
    (r := Rect.unit (s := S2048x2048) ![0, 0] S2048x2048.size inb_S2048x2048_S2048x2048_0_0) (Mk := Finset.univ) (S := Finset.univ) (Finset.subset_univ _)) $$ Ho
  iintro Ho
  iapply Hk
  isplitl [Hg]; · iexact Hg
  have e : pay (oM.view.readAt (Elt F) (Rect.unit (s := S2048x2048) ![0, 0] S2048x2048.size inb_S2048x2048_S2048x2048_0_0).toLoadRect f)
      (gM.view.readAt (Elt F) (Rect.unit (s := S1x2048) ![0, 0] S1x2048.size inb_S1x2048_S1x2048_0_0).toLoadRect g) = pay f g :=
    congrArg₂ pay (Memref.readAt_unit_zero (Elt F) cc0_stg1_0 hz inb_S2048x2048_S2048x2048_0_0 f)
      (Memref.readAt_unit_zero (Elt F) cc0_stg0_0 hz inb_S1x2048_S1x2048_0_0 g)
  iapply (Entails.of_eq (congrArg (fun x => ((c : Thread nD τ).loc cc0_stg1_0 ↦{fullShare} x : sProp 𝕄))
    ((Memref.write_access_unit_zero_univ (Elt F) cc0_stg1_0 hz inb_S2048x2048_S2048x2048_0_0 f _).trans e))) $$ Ho

end

/-- Two halves of the columns side by side. -/
def joined (a b : Vec F S2048x1024 .f32) : Vec F S2048x2048 .f32 := fun i =>
  if h : (i 1).val < 1024 then a (ix2 ⟨(i 0).val, (i 0).isLt⟩ ⟨(i 1).val, h⟩)
  else b (ix2 ⟨(i 0).val, (i 0).isLt⟩ ⟨(i 1).val - 1024, by have h1 : (i 1).val < 2048 := (i 1).isLt; omega⟩)

/-- The two halves written one after the other are the two halves side by side, whatever was there. -/
theorem write_halves (f : oM.view.ty.Contents (Elt F)) (a b : Vec F S2048x1024 .f32) :
    (oM.access (Rect.unit (s := S2048x2048) ![0, 1024] S2048x1024.size inb_S2048x2048_S2048x1024_0_1024)).write (Elt F)
      ((oM.access (Rect.unit (s := S2048x2048) ![0, 0] S2048x1024.size inb_S2048x2048_S2048x1024_0_0)).write (Elt F) f a Finset.univ) b Finset.univ
    = joined a b := by
  funext i
  have h0 : (i 0).val < 2048 := (i 0).isLt
  have h1 : (i 1).val < 2048 := (i 1).isLt
  unfold joined
  by_cases h : (i 1).val < 1024
  · rw [dif_pos h]
    refine (View.write_of_not_mem (v := oM.access (Rect.unit (s := S2048x2048) ![0, 1024] S2048x1024.size inb_S2048x2048_S2048x1024_0_1024)) _ _ _ ?_).trans ?_
    · intro hm
      obtain ⟨x, -, hx⟩ := Finset.mem_map.mp hm
      have e : 1024 + 1 * (x 1).val = (i 1).val := congrArg (fun y : S2048x2048.Idx => (y 1).val) hx
      omega
    · refine Eq.trans (congrArg _ ?_) (View.write_emb_of_mem (v := oM.access (Rect.unit (s := S2048x2048) ![0, 0] S2048x1024.size inb_S2048x2048_S2048x1024_0_0))
        f a (M := Finset.univ) (x := ix2 ⟨(i 0).val, h0⟩ ⟨(i 1).val, h⟩) (Finset.mem_univ _))
      funext d
      fin_cases d <;> apply Fin.ext
      · show (i 0).val = 0 + 1 * (i 0).val; omega
      · show (i 1).val = 0 + 1 * (i 1).val; omega
  · rw [dif_neg h]
    refine Eq.trans (congrArg _ ?_) (View.write_emb_of_mem (v := oM.access (Rect.unit (s := S2048x2048) ![0, 1024] S2048x1024.size inb_S2048x2048_S2048x1024_0_1024))
        _ b (M := Finset.univ) (x := ix2 ⟨(i 0).val, h0⟩ ⟨(i 1).val - 1024, by omega⟩) (Finset.mem_univ _))
    funext d
    fin_cases d <;> apply Fin.ext
    · show (i 0).val = 0 + 1 * (i 0).val; omega
    · show (i 1).val = 1024 + 1 * ((i 1).val - 1024); omega

end Cert.KernelIdeal.Ring

end
-- ==== Proof.RingIdeal.Parts.lean ====
/- The parts of the ring kernel's body, in program order, each from what it takes to what it gives back. -/
module

public import proofs.«01_k».proof.Proof.RingIdeal.Steps
public import proofs.«01_k».proof.Proof.Gen.KernelIdeal.Skeleton

@[expose] public section

set_option maxRecDepth 16384

noncomputable section

namespace Cert.KernelIdeal.Ring

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.TalkSites (Pay tallyL Fam)
open Idealize.ShloMosaic.SiteBlocks (L lv)

variable {F : FTy → Type} [FloatOps F]

local notation "𝕄" => MT nD τ sig ℕ (Elt F) ℕ UU ℕ

variable (m : (ℓ : Loc nD τ sig) → Buf (Elt F) ℓ) (K : GSem nD τ sig → ℕ) (c : Dev nD)
variable {Q : PUnit → sProp (MT nD τ sig ℕ (Elt F) ℕ UU ℕ)}

/-! ## Shorthands -/

/-- The neighbors as the kernel computes them. -/
theorem left_eq {d : ℕ} (hd : d < nD) (e : d = 16 * (c.val / 16) + 4 * ((((c.val / 4) % 4) + 3) % 4) + c.val % 4) : (⟨d, hd⟩ : Dev nD) = prv c := Fin.ext e
@[inherit_doc left_eq] theorem right_eq {d : ℕ} (hd : d < nD) (e : d = 16 * (c.val / 16) + 4 * ((((c.val / 4) % 4) + 1) % 4) + c.val % 4) : (⟨d, hd⟩ : Dev nD) = nxt c := Fin.ext e

/-- What hop `h` of half `t` takes besides its source. -/
def hop (h : Fin 3) (t : ℕ) : sProp 𝕄 :=
  iprop(any (nxt c) (slotM h) ∗ reached ER (crdC c) t ∗ dutyTok ER (sndC c h) t c ∗ reached ER (sndC c h) t
    ∗ dutyTok ER (rcvC (nxt c) h) t c ∗ reached ER (rcvC (nxt c) h) t)

/-- What a device's own copies take: its matrix, the copies' semaphore at zero, and the debt. -/
def own (n : ℕ) : sProp 𝕄 := iprop(xs m c ∗ semVal ((c : Thread nD τ), .dma ldS) 0 ∗ ow c n)

/-- The debt before a payment is the debt after it and the payment. -/
theorem O_step (n : ℕ) (x : Pay nD τ sig) (e : (dues c).drop n = x :: (dues c).drop (n + 1)) : O c n = O c (n + 1) + tallyAt x.1 x.2.1 x.2.2 := by
  unfold O; rw [e]; exact add_comm _ _

theorem copy_run {α : Type} {Q : α → sProp (MT nD τ sig ℕ (Elt F) ℕ UU ℕ)} {n : ℕ} {src srcw : Memref sig .tc .hbm S2048x1024 .f32} {dst : Memref sig .tc .vmem S2048x1024 .f32} {sm sm' : DmaSem sig}
    (off : Fin 2 → Nat) (hoff : ∀ a, off a + S2048x1024.size a ≤ S8192x2048.size a) (b t : ℕ) (hsrc : src = chunk off hoff)
    (e : off = ![2048 * (b % 4), 1024 * (t % 2)]) (hsm : sm = ldS) (hsm' : sm' = ldS) (hN : dst.view.dmaCredit = N)
    {h1 : src.view.WordExact} {h2 : dst.view.WordExact} {h3 : DmaTarget.Typed .hbm (.dma sm) (DmaTarget.here dst : DmaTarget nD τ sig .tc .vmem S2048x1024 .f32)}
    {h4 : srcw.view.WordExact} {h5 : dst.view.WordExact} {k : PUnit → Prog (TpuEff nD τ sig (Elt F) Λ₀ .tc) α} :
    iprop(invs m K ∗ own m c n ∗ any c dst)
      ⊢ iprop(((own m c n ∗ holds c dst (blk m c b t)) -∗ run c (k ⟨⟩) Q)
        -∗ run c (.op (.enqueueDma src (.here dst) (.dma sm) h1 h2 h3) fun _ => .op (.waitDma2 sm' srcw dst h4 h5) k) Q) := by
  unfold own
  iintro ⟨#HI, ⟨Hx, Hv, HO⟩, Hd⟩ Hk
  iapply (step_chunk m K c off hoff b t hsrc e hsm hsm' hN) $$ [Hx Hv HO Hd]
  · isplitr; · iexact HI
    isplitl [Hx]; · iexact Hx
    isplitl [Hd]; · iexact Hd
    isplitl [Hv] <;> iassumption
  iintro ⟨Hx, Hd, Hv, HO⟩
  iapply Hk
  isplitr [Hd]
  · isplitl [Hx]; · iexact Hx
    isplitl [Hv] <;> iassumption
  iexact Hd

/-- A run that is over. -/
theorem run_ret {α : Type} {Q : α → sProp (MT nD τ sig ℕ (Elt F) ℕ UU ℕ)} (a : α) : Q a ⊢ run c (.ret a) Q := by
  unfold run; rw [wp_ret]; iintro H; imodintro; iexact H

/-- A hop is sent. -/
theorem send_run {α : Type} {Q : α → sProp (MT nD τ sig ℕ (Elt F) ℕ UU ℕ)} (h : Fin 3) {n i : ℕ} (t : ℕ) (ht : t < 2) (hn : O c n = O c (n + 1) + tallyAt (rcvC (nxt c) h) i N)
    {src dst : Memref sig .tc .vmem S2048x1024 .f32} {sS sR : DmaSem sig} {dv : Dev nD}
    (hsrc : src = srcM h) (hdst : dst = slotM h) (hsS : sS = sndS h) (hsR : sR = rcvS h) (hdv : dv = nxt c)
    {hsc : dst.view.ref.isScScratch = false} {h1 : src.view.WordExact} {h2 : dst.view.WordExact}
    {h3 : DmaTarget.Typed .vmem (.dma sR) (DmaTarget.remote (Dev.tc dv) dst (.dma sS) hsc : DmaTarget nD τ sig .tc .vmem S2048x1024 .f32)}
    {k : PUnit → Prog (TpuEff nD τ sig (Elt F) Λ₀ .tc) α} :
    iprop(invs m K ∗ own m c n ∗ holds c (srcM h) (sent m t h.val c) ∗ hop c h t)
      ⊢ iprop(((own m c (n + 1) ∗ cred (tallyAt (sndC c h) 0 N)) -∗ run c (k ⟨⟩) Q)
        -∗ run c (.op (.enqueueDma src (.remote (Dev.tc dv) dst (.dma sS) hsc) (.dma sR) h1 h2 h3) k) Q) := by
  unfold own hop
  iintro ⟨#HI, ⟨Hx, Hv, HO⟩, Hs, ⟨Hd, Hcr, Ht1, Hr1, Ht2, Hr2⟩⟩ Hk
  iapply (step_send m K c h t ht hn hsrc hdst hsS hsR hdv) $$ [Hs Hd Hcr HO Ht1 Hr1 Ht2 Hr2]
  · isplitr; · iexact HI
    isplitl [Hs]; · iexact Hs
    isplitl [Hd]; · iexact Hd
    isplitl [Hcr]; · iexact Hcr
    isplitl [HO]; · iexact HO
    isplitl [Ht1]; · iexact Ht1
    isplitl [Hr1]; · iexact Hr1
    isplitl [Ht2] <;> iassumption
  iintro ⟨Hc, HO⟩
  iapply Hk
  isplitr [Hc]
  · isplitl [Hx]; · iexact Hx
    isplitl [Hv] <;> iassumption
  iexact Hc

/-- A send is waited for. -/
theorem sent_run {α : Type} {Q : α → sProp (MT nD τ sig ℕ (Elt F) ℕ UU ℕ)} (h : Fin 3) {n : ℕ} (t : ℕ) (ht : t < 2) {src dst : Memref sig .tc .vmem S2048x1024 .f32} {sS : DmaSem sig}
    (hsS : sS = sndS h) (hN : dst.view.dmaCredit = N) {h1 : src.view.WordExact} {h2 : dst.view.WordExact}
    {k : PUnit → Prog (TpuEff nD τ sig (Elt F) Λ₀ .tc) α} :
    iprop(invs m K ∗ own m c n ∗ cred (tallyAt (sndC c h) 0 N) ∗ atPos ER (sndC c h) t ∅ 0)
      ⊢ iprop(((own m c n ∗ atPos ER (sndC c h) (t + 1) ∅ 0 ∗ reached ER (sndC c h) (t + 1) ∗ holds c (srcM h) (sent m t h.val c)) -∗ run c (k ⟨⟩) Q)
        -∗ run c (.op (.waitDma2 sS src dst h1 h2) k) Q) := by
  unfold own
  iintro ⟨#HI, ⟨Hx, Hv, HO⟩, Hc, Hat⟩ Hk
  iapply (step_sent m K c h t ht hsS hN) $$ [Hc HO Hat]
  · isplitr; · iexact HI
    isplitl [Hc]; · iexact Hc
    isplitl [HO] <;> iassumption
  iintro ⟨HO, Hr⟩
  iapply Hk
  isplitr [Hr]
  · isplitl [Hx]; · iexact Hx
    isplitl [Hv] <;> iassumption
  iexact Hr

/-- A hop is received. -/
theorem rcvd_run {α : Type} {Q : α → sProp (MT nD τ sig ℕ (Elt F) ℕ UU ℕ)} (h : Fin 3) {n i : ℕ} (t : ℕ) (ht : t < 2) (hi : i < NI) (hw : ∀ k, n ≤ k → k < 10 → i < ([1, 1, 2, 3, 4, 5, 6, 7, 8, 9] : List ℕ).getD k 0)
    {src dst : Memref sig .tc .vmem S2048x1024 .f32} {sR : DmaSem sig} (hsR : sR = rcvS h) (hN : dst.view.dmaCredit = N)
    {h1 : src.view.WordExact} {h2 : dst.view.WordExact} {k : PUnit → Prog (TpuEff nD τ sig (Elt F) Λ₀ .tc) α} :
    iprop(invs m K ∗ own m c n ∗ cred (tallyAt (rcvC c h) i N) ∗ atPos ER (rcvC c h) t ∅ 0)
      ⊢ iprop(((own m c n ∗ atPos ER (rcvC c h) (t + 1) ∅ 0 ∗ reached ER (rcvC c h) (t + 1) ∗ holds c (slotM h) (got m t h.val c) ∗ reached ER (crdC (prv c)) t) -∗ run c (k ⟨⟩) Q)
        -∗ run c (.op (.waitDma2 sR src dst h1 h2) k) Q) := by
  unfold own
  iintro ⟨#HI, ⟨Hx, Hv, HO⟩, Hc, Hat⟩ Hk
  iapply (step_rcvd m K c h t ht (mayWait c _ n i hi (dues_above c n i hw)) hsR hN) $$ [Hc HO Hat]
  · isplitr; · iexact HI
    isplitl [Hc]; · iexact Hc
    isplitl [HO] <;> iassumption
  iintro ⟨HO, Hr⟩
  iapply Hk
  isplitr [Hr]
  · isplitl [Hx]; · iexact Hx
    isplitl [Hv] <;> iassumption
  iexact Hr

/-- The credit is paid to the left neighbor, and the device's own waited for. -/
theorem credit_run {α : Type} {Q : α → sProp (MT nD τ sig ℕ (Elt F) ℕ UU ℕ)} {n i : ℕ} (t : ℕ) (ht : t < 2) (hi : i < NI) (hw : ∀ k, n + 1 ≤ k → k < 10 → i < ([1, 1, 2, 3, 4, 5, 6, 7, 8, 9] : List ℕ).getD k 0)
    (hn : O c n = O c (n + 1) + tallyAt (crdC (prv c)) i 1) {dv : Dev nD} {s s' : Sem sig} (hs : s = crdS) (hs' : s' = crdS) (hdv : dv = prv c)
    {k : PUnit → Prog (TpuEff nD τ sig (Elt F) Λ₀ .tc) α} :
    iprop(invs m K ∗ own m c n ∗ dutyTok ER (crdC (prv c)) t c ∗ (ringRd m).payload (crdC (prv c)) t c ∗ reached ER (crdC (prv c)) t
        ∗ cred (tallyAt (crdC c) i 1) ∗ atPos ER (crdC c) t ∅ 0)
      ⊢ iprop(((own m c (n + 1) ∗ atPos ER (crdC c) (t + 1) ∅ 0 ∗ reached ER (crdC c) (t + 1)
            ∗ bigSep ((ringRd m).duties (crdC c) t \ ∅) fun d => (ringRd m).payload (crdC c) t d) -∗ run c (k ⟨⟩) Q)
        -∗ run c (.op (.semSignal (dv, Proc.tc) s (1#32).toInt) fun _ => .op (.semWait s' (1#32).toInt) k) Q) := by
  unfold own
  iintro ⟨#HI, ⟨Hx, Hv, HO⟩, Ht, Hp, Hr, Hc, Hat⟩ Hk
  iapply (step_signal m K c (n := n) (i := i) (r := t) (s := crdS) (d := prv c) hs hdv
    (by rw [duties_crd m (prv c) ht, nxt_prv]; exact Finset.mem_singleton_self _) (amount_crd m (prv c) t c) (inv_dorm m K (prv c) crd_dorm) hn) $$ [HO Hp Ht Hr]
  · isplitr; · iexact HI
    isplitl [HO]; · iexact HO
    isplitl [Ht]; · iexact Ht
    isplitl [Hp] <;> iassumption
  iintro HO
  iapply (step_wait m K c (n := n + 1) (i := i) (r := t) (a := 1) (s := crdS) hs' (by decide) (expect_crd m c ht) (inv_dorm m K c crd_dorm)
    (mayWait c _ (n + 1) i hi (dues_above c (n + 1) i hw))) $$ [HO Hc Hat]
  · isplitr; · iexact HI
    isplitl [Hc]; · iexact Hc
    isplitl [HO] <;> iassumption
  iintro ⟨HO, Hat⟩
  iapply Hk
  isplitr [Hat]
  · isplitl [Hx]; · iexact Hx
    isplitl [Hv] <;> iassumption
  iexact Hat

/-- What the sums' payloads compute. -/
theorem pay_acc (a : Vec F S1x2048x1024 .f32) (b : Vec F S2048x1024 .f32) :
    shapeCast S2048x1024 (shapeCast S1x2048x1024 (addf (shapeCast S2048x1024 a shapeCasts_S1x2048x1024_S2048x1024) b) shapeCasts_S2048x1024_S1x2048x1024)
      shapeCasts_S1x2048x1024_S2048x1024 = addf (shapeCast S2048x1024 a shapeCasts_S1x2048x1024_S2048x1024) b := by
  rw [shapeCast_shapeCast]

/-- A device's own block, as the kernel addresses it. -/
theorem off_own {off : Fin 2 → Nat} (t : ℕ) (e : off = ![2048 * ((c.val / 4) % 4), 1024 * (t % 2)]) : off = ![2048 * (yy c % 4), 1024 * (t % 2)] := by
  rw [e]; unfold yy; rw [Nat.mod_mod]

/-! ## Part 1: the barrier -/

theorem part1_run {Q : (Σ' (d0 : Dev nD) (v2 : BitVec 32) (v5 : BitVec 32) (v8 : BitVec 32) (v10 : BitVec 32) (v13 : BitVec 32), BitVec 32) → sProp 𝕄} :
    iprop(invs m K ∗ ow c 0 ∗ slots c 0 ∗ cred (tallyAt (barC c) 1 2) ∗ atPos ER (barC c) 0 ∅ 0
        ∗ dutyTok ER (barC (prv c)) 0 c ∗ dutyTok ER (barC (nxt c)) 0 c ∗ reached ER (barC (prv c)) 0 ∗ reached ER (barC (nxt c)) 0)
      ⊢ iprop((∀ v2 v5 v8 v10 v13 v29, (ow c 2 ∗ slots (nxt c) 0 ∗ atPos ER (barC c) 1 ∅ 0) -∗ Q ⟨c, v2, v5, v8, v10, v13, v29⟩)
        -∗ run c (k0_part1 (F := F) xM (Memref.isWhole_whole _) gM (Memref.isWhole_whole _) oM (Memref.isWhole_whole _) s0M (Memref.isWhole_whole _)
          ldM (Memref.isWhole_whole _) cmM (Memref.isWhole_whole _) cc0_scratch3 cc0_scratch4 cc0_scratch5 cc0_scratch6) Q) := by
  simp only [k0_part1_eq_skeleton]; unfold k0_part1_skel
  simp only [semSignalWord, semWaitWord, Prog.lift, Prog.bind_op, Prog.bind_ret, Prog.pure_eq_ret, wp_deviceId]
  iintro ⟨#HI, HO, Hs, Hc, Hat, Ht1, Ht2, Hr1, Hr2⟩ Hk
  iapply (step_signal m K c (i := 1) (r := 0) (s := barS) (d := prv c) rfl (left_eq c _ (k0_dev1_eq c))
    (by rw [duties_bar, nxt_prv]; exact Finset.mem_insert_self _ _) (amount_bar m (prv c) 0 c) (inv_bar m K (prv c)) (O_step c 0 _ rfl)) $$ [HO Hs Ht1 Hr1]
  · isplitr; · iexact HI
    isplitl [HO]; · iexact HO
    isplitl [Ht1]; · iexact Ht1
    isplitl [Hs]
    · have e : (ringRd m).payload (barC (prv c)) 0 c = slots c 0 := by
        have h := payload_bar_nxt m (prv c); rw [nxt_prv] at h; exact h
      rw [e]; iexact Hs
    iexact Hr1
  iintro HO
  iapply (step_signal m K c (i := 1) (r := 0) (s := barS) (d := nxt c) rfl (right_eq c _ (k0_dev2_eq c))
    (by rw [duties_bar, prv_nxt]; exact Finset.mem_insert_of_mem (Finset.mem_singleton_self _)) (amount_bar m (nxt c) 0 c) (inv_bar m K (nxt c)) (O_step c 1 _ rfl)) $$ [HO Ht2 Hr2]
  · isplitr; · iexact HI
    isplitl [HO]; · iexact HO
    isplitl [Ht2]; · iexact Ht2
    isplitr
    · have e : (ringRd m).payload (barC (nxt c)) 0 c = iprop(emp) := by
        have h := payload_bar_prv m (nxt c); rw [prv_nxt] at h; exact h
      rw [e]; iempintro
    iexact Hr2
  iintro HO
  iapply (step_wait m K c (n := 2) (i := 1) (r := 0) (a := 2) (s := barS) rfl (by decide) (expect_bar m c) (inv_bar m K c)
    (mayWait c _ 2 1 (by decide) (dues_above c 2 1 (by decide +kernel)))) $$ [HO Hc Hat]
  · isplitr; · iexact HI
    isplitl [Hc]; · iexact Hc
    isplitl [HO] <;> iassumption
  iintro ⟨HO, Hat, -, Hp⟩
  ihave Hp := (Entails.of_eq (rest_bar m c)) $$ Hp
  icases Hp with ⟨Hs, -⟩
  iapply run_ret
  iapply Hk
  isplitl [HO]; · iexact HO
  isplitl [Hs] <;> iassumption

/-! ## The parts of the two halves -/

/-- The first hop of the first half: the block is copied in, sent, and the send waited for. -/
theorem part2_run (v2 v8 v10 v29 : BitVec 32) :
    iprop(invs m K ∗ own m c 2 ∗ any c s0M ∗ hop c 0 0 ∗ atPos ER (sndC c 0) 0 ∅ 0)
      ⊢ iprop(((own m c 3 ∗ any c s0M ∗ atPos ER (sndC c 0) 1 ∅ 0 ∗ reached ER (sndC c 0) 1) -∗ Q ⟨⟩)
        -∗ run c (k0_part2 (F := F) xM (Memref.isWhole_whole _) gM (Memref.isWhole_whole _) oM (Memref.isWhole_whole _) s0M (Memref.isWhole_whole _)
          ldM (Memref.isWhole_whole _) cmM (Memref.isWhole_whole _) cc0_scratch3 cc0_scratch4 cc0_scratch5 cc0_scratch6 c v2 v8 v10 v29) Q) := by
  simp only [k0_part2_eq_skeleton]; unfold k0_part2_skel
  simp only [semSignalWord, semWaitWord, Prog.lift, Prog.bind_op, Prog.bind_ret, Prog.pure_eq_ret]
  iintro ⟨#HI, Ho, Hd, Hh, Hat⟩ Hk
  iapply (copy_run m K c (k0_off1 c) (k0_off1_inb c) (yy c + 3) 0 rfl (k0_off1_eq c) rfl rfl (dst := s0M) rfl) $$ [Ho Hd]
  · isplitr; · iexact HI
    isplitl [Ho]; · iexact Ho
    iexact Hd
  iintro ⟨Ho, Hd⟩
  iapply (send_run m K c 0 (n := 2) (i := 2) 0 (by decide) (O_step c 2 _ rfl) rfl rfl rfl rfl (right_eq c _ (k0_dev3_eq c))) $$ [Ho Hd Hh]
  · isplitr; · iexact HI
    isplitl [Ho]; · iexact Ho
    isplitl [Hd]; · iexact Hd
    iexact Hh
  iintro ⟨Ho, Hc⟩
  iapply (sent_run m K c 0 (n := 3) 0 (by decide) (dst := srcM 0) rfl rfl) $$ [Ho Hc Hat]
  · isplitr; · iexact HI
    isplitl [Ho]; · iexact Ho
    isplitl [Hc]; · iexact Hc
    iexact Hat
  iintro ⟨Ho, Hat, Hr, Hs⟩
  iapply run_ret
  iapply Hk
  isplitl [Ho]; · iexact Ho
  isplitl [Hs]; · iapply (holds_any c (s0M) _); iexact Hs
  isplitl [Hat]; · iexact Hat
  iexact Hr

/-- The first hop is received, the block is added, and the second hop sent, in the first half. -/
theorem part3_run (v2 v5 v8 v10 : BitVec 32) :
    iprop(invs m K ∗ own m c 3 ∗ cred (tallyAt (rcvC c 0) 2 N) ∗ atPos ER (rcvC c 0) 0 ∅ 0 ∗ any c ldM ∗ hop c 1 0)
      ⊢ iprop(((own m c 4 ∗ cred (tallyAt (sndC c 1) 0 N) ∗ atPos ER (rcvC c 0) 1 ∅ 0 ∗ reached ER (rcvC c 0) 1 ∗ reached ER (crdC (prv c)) 0 ∗ any c ldM) -∗ Q ⟨⟩)
        -∗ run c (k0_part3 (F := F) xM (Memref.isWhole_whole _) gM (Memref.isWhole_whole _) oM (Memref.isWhole_whole _) s0M (Memref.isWhole_whole _)
          ldM (Memref.isWhole_whole _) cmM (Memref.isWhole_whole _) cc0_scratch3 cc0_scratch4 cc0_scratch5 cc0_scratch6 c v2 v5 v8 v10) Q) := by
  simp only [k0_part3_eq_skeleton]; unfold k0_part3_skel
  simp only [semSignalWord, semWaitWord, Prog.lift, Prog.bind_op, Prog.bind_ret, Prog.pure_eq_ret]
  iintro ⟨#HI, Ho, Hc, Hat, Hd, Hh⟩ Hk
  iapply (rcvd_run m K c 0 (n := 3) (i := 2) 0 (by decide) (by decide) (by decide +kernel) (dst := slotM 0) rfl rfl) $$ [Ho Hc Hat]
  · isplitr; · iexact HI
    isplitl [Ho]; · iexact Ho
    isplitl [Hc]; · iexact Hc
    iexact Hat
  iintro ⟨Ho, Hat, Hr, Hs, Hp⟩
  iapply (copy_run m K c (k0_off2 c 0#32) (k0_off2_inb c 0) (yy c + 6 - 0) 0 rfl (k0_off2_eq c 0) rfl rfl (dst := ldM) rfl) $$ [Ho Hd]
  · isplitr; · iexact HI
    isplitl [Ho]; · iexact Ho
    iexact Hd
  iintro ⟨Ho, Hd⟩
  iapply (step_acc c 0 (pay := k0_pay2) (got m 0 0 c) (blk m c (yy c + 6 - 0) 0) pay_acc) $$ [Hs Hd]
  · isplitl [Hs]; · iexact Hs
    iexact Hd
  iintro ⟨Hs, Hd⟩
  iapply (send_run m K c 1 (n := 3) (i := 3) 0 (by decide) (O_step c 3 _ rfl) rfl rfl rfl rfl (right_eq c _ (k0_dev4_eq c))) $$ [Ho Hs Hh]
  · isplitr; · iexact HI
    isplitl [Ho]; · iexact Ho
    isplitl [Hs]; · iexact Hs
    iexact Hh
  iintro ⟨Ho, Hc⟩
  iapply run_ret
  iapply Hk
  isplitl [Ho]; · iexact Ho
  isplitl [Hc]; · iexact Hc
  isplitl [Hat]; · iexact Hat
  isplitl [Hr]; · iexact Hr
  isplitl [Hp]; · iexact Hp
  iapply (holds_any c (ldM) _); iexact Hd

/-- The second hop's send is waited for, the second hop is received, and the next block copied in, in the first half. -/
theorem part4_run (v2 v5 v8 v10 : BitVec 32) :
    iprop(invs m K ∗ own m c 4 ∗ cred (tallyAt (sndC c 1) 0 N) ∗ atPos ER (sndC c 1) 0 ∅ 0 ∗ cred (tallyAt (rcvC c 1) 3 N) ∗ atPos ER (rcvC c 1) 0 ∅ 0 ∗ any c ldM)
      ⊢ iprop(((own m c 4 ∗ atPos ER (sndC c 1) 1 ∅ 0 ∗ reached ER (sndC c 1) 1 ∗ any c (slotM 0) ∗ atPos ER (rcvC c 1) 1 ∅ 0 ∗ reached ER (rcvC c 1) 1 ∗ holds c (slotM 1) (got m 0 1 c) ∗ holds c ldM (blk m c (yy c + 6 - 1) 0)) -∗ Q ⟨⟩)
        -∗ run c (k0_part4 (F := F) xM (Memref.isWhole_whole _) gM (Memref.isWhole_whole _) oM (Memref.isWhole_whole _) s0M (Memref.isWhole_whole _)
          ldM (Memref.isWhole_whole _) cmM (Memref.isWhole_whole _) cc0_scratch3 cc0_scratch4 cc0_scratch5 cc0_scratch6 c v2 v5 v8 v10) Q) := by
  simp only [k0_part4_eq_skeleton]; unfold k0_part4_skel
  simp only [semSignalWord, semWaitWord, Prog.lift, Prog.bind_op, Prog.bind_ret, Prog.pure_eq_ret]
  iintro ⟨#HI, Ho, Hc, Hat, Hc2, Hat2, Hd⟩ Hk
  iapply (sent_run m K c 1 (n := 4) 0 (by decide) (dst := srcM 1) rfl rfl) $$ [Ho Hc Hat]
  · isplitr; · iexact HI
    isplitl [Ho]; · iexact Ho
    isplitl [Hc]; · iexact Hc
    iexact Hat
  iintro ⟨Ho, Hat, Hr, Hs⟩
  iapply (rcvd_run m K c 1 (n := 4) (i := 3) 0 (by decide) (by decide) (by decide +kernel) (dst := slotM 1) rfl rfl) $$ [Ho Hc2 Hat2]
  · isplitr; · iexact HI
    isplitl [Ho]; · iexact Ho
    isplitl [Hc2]; · iexact Hc2
    iexact Hat2
  iintro ⟨Ho, Hat2, Hr2, Hs2, Hp⟩
  iapply (copy_run m K c (k0_off2 c 1#32) (k0_off2_inb c 1) (yy c + 6 - 1) 0 rfl (k0_off2_eq c 1) rfl rfl (dst := ldM) rfl) $$ [Ho Hd]
  · isplitr; · iexact HI
    isplitl [Ho]; · iexact Ho
    iexact Hd
  iintro ⟨Ho, Hd⟩
  iapply run_ret
  iapply Hk
  isplitl [Ho]; · iexact Ho
  isplitl [Hat]; · iexact Hat
  isplitl [Hr]; · iexact Hr
  isplitl [Hs]; · iapply (holds_any c (slotM 0) _); iexact Hs
  isplitl [Hat2]; · iexact Hat2
  isplitl [Hr2]; · iexact Hr2
  isplitl [Hs2]; · iexact Hs2
  iexact Hd

/-- The block is added, and the third hop sent and waited for, in the first half. -/
theorem part5_run (v2 v8 v10 : BitVec 32) :
    iprop(invs m K ∗ own m c 4 ∗ holds c (slotM 1) (got m 0 1 c) ∗ holds c ldM (blk m c (yy c + 6 - 1) 0) ∗ hop c 2 0 ∗ atPos ER (sndC c 2) 0 ∅ 0)
      ⊢ iprop(((own m c 5 ∗ any c ldM ∗ any c (slotM 1) ∗ atPos ER (sndC c 2) 1 ∅ 0 ∗ reached ER (sndC c 2) 1) -∗ Q ⟨⟩)
        -∗ run c (k0_part5 (F := F) xM (Memref.isWhole_whole _) gM (Memref.isWhole_whole _) oM (Memref.isWhole_whole _) s0M (Memref.isWhole_whole _)
          ldM (Memref.isWhole_whole _) cmM (Memref.isWhole_whole _) cc0_scratch3 cc0_scratch4 cc0_scratch5 cc0_scratch6 c v2 v8 v10) Q) := by
  simp only [k0_part5_eq_skeleton]; unfold k0_part5_skel
  simp only [semSignalWord, semWaitWord, Prog.lift, Prog.bind_op, Prog.bind_ret, Prog.pure_eq_ret]
  iintro ⟨#HI, Ho, Hs, Hd, Hh, Hat⟩ Hk
  iapply (step_acc c 1 (pay := k0_pay3) (got m 0 1 c) (blk m c (yy c + 6 - 1) 0) pay_acc) $$ [Hs Hd]
  · isplitl [Hs]; · iexact Hs
    iexact Hd
  iintro ⟨Hs, Hd⟩
  iapply (send_run m K c 2 (n := 4) (i := 4) 0 (by decide) (O_step c 4 _ rfl) rfl rfl rfl rfl (right_eq c _ (k0_dev5_eq c))) $$ [Ho Hs Hh]
  · isplitr; · iexact HI
    isplitl [Ho]; · iexact Ho
    isplitl [Hs]; · iexact Hs
    iexact Hh
  iintro ⟨Ho, Hc⟩
  iapply (sent_run m K c 2 (n := 5) 0 (by decide) (dst := srcM 2) rfl rfl) $$ [Ho Hc Hat]
  · isplitr; · iexact HI
    isplitl [Ho]; · iexact Ho
    isplitl [Hc]; · iexact Hc
    iexact Hat
  iintro ⟨Ho, Hat, Hr, Hs⟩
  iapply run_ret
  iapply Hk
  isplitl [Ho]; · iexact Ho
  isplitl [Hd]; · iapply (holds_any c (ldM) _); iexact Hd
  isplitl [Hs]; · iapply (holds_any c (slotM 1) _); iexact Hs
  isplitl [Hat]; · iexact Hat
  iexact Hr

/-- The third hop is received, the sum of the first half is put in the result, and credit is given and taken. -/
theorem part6_run {Q : (Σ' (v165 : BitVec 32), BitVec 32) → sProp (MT nD τ sig ℕ (Elt F) ℕ UU ℕ)} (v2 v5 v8 v10 v13 : BitVec 32) (f : Buf (Elt F) ((c : Thread nD τ).loc cc0_stg1_0)) :
    iprop(invs m K ∗ own m c 5 ∗ cred (tallyAt (rcvC c 2) 4 N) ∗ atPos ER (rcvC c 2) 0 ∅ 0 ∗ any c ldM ∗ ((c : Thread nD τ).loc cc0_stg1_0 ↦{fullShare} f) ∗ dutyTok ER (crdC (prv c)) 0 c ∗ reached ER (crdC (prv c)) 0 ∗ cred (tallyAt (crdC c) 5 1) ∗ atPos ER (crdC c) 0 ∅ 0 ∗ any c (slotM 0) ∗ any c (slotM 1) ∗ reached ER (rcvC c 0) 1 ∗ reached ER (rcvC c 1) 1)
      ⊢ iprop((∀ v165 w, (own m c 6 ∗ any c ldM ∗ (((c : Thread nD τ).loc cc0_stg1_0) ↦{fullShare} ((oM.access (Rect.unit (s := S2048x2048) ![0, 0] S2048x1024.size inb_S2048x2048_S2048x1024_0_0)).write (Elt F) f (summed m 0 c) Finset.univ)) ∗ atPos ER (rcvC c 2) 1 ∅ 0 ∗ atPos ER (crdC c) 1 ∅ 0 ∗ reached ER (crdC c) 1 ∗ slots (nxt c) 1) -∗ Q ⟨v165, w⟩)
        -∗ run c (k0_part6 (F := F) xM (Memref.isWhole_whole _) gM (Memref.isWhole_whole _) oM (Memref.isWhole_whole _) s0M (Memref.isWhole_whole _)
          ldM (Memref.isWhole_whole _) cmM (Memref.isWhole_whole _) cc0_scratch3 cc0_scratch4 cc0_scratch5 cc0_scratch6 c v2 v5 v8 v10 v13) Q) := by
  simp only [k0_part6_eq_skeleton]; unfold k0_part6_skel
  simp only [semSignalWord, semWaitWord, Prog.lift, Prog.bind_op, Prog.bind_ret, Prog.pure_eq_ret]
  iintro ⟨#HI, Ho, Hc, Hat, Hd, Hf, Ht, #Hrp, Hcr, Hat2, Hs0, Hs1, #Hr0, #Hr1⟩ Hk
  iapply (rcvd_run m K c 2 (n := 5) (i := 4) 0 (by decide) (by decide) (by decide +kernel) (dst := slotM 2) rfl rfl) $$ [Ho Hc Hat]
  · isplitr; · iexact HI
    isplitl [Ho]; · iexact Ho
    isplitl [Hc]; · iexact Hc
    iexact Hat
  iintro ⟨Ho, Hat, #Hr, Hs, Hp⟩
  iapply (copy_run m K c (k0_off3 c) (k0_off3_inb c) (yy c) 0 rfl (off_own c 0 (k0_off3_eq c)) rfl rfl (dst := ldM) rfl) $$ [Ho Hd]
  · isplitr; · iexact HI
    isplitl [Ho]; · iexact Ho
    iexact Hd
  iintro ⟨Ho, Hd⟩
  iapply (step_out c 2 (pay := k0_pay4) (got m 0 2 c) (blk m c (yy c) 0) f (fun _ _ => rfl)) $$ [Hs Hd Hf]
  · isplitl [Hs]; · iexact Hs
    isplitl [Hd] <;> iassumption
  iintro ⟨Hs, Hd, Hf⟩
  iapply (credit_run m K c (n := 5) (i := 5) 0 (by decide) (by decide) (by decide +kernel) (O_step c 5 _ rfl) rfl rfl (left_eq c _ (k0_dev6_eq c))) $$ [Ho Ht Hcr Hat2 Hs Hs0 Hs1]
  · isplitr; · iexact HI
    isplitl [Ho]; · iexact Ho
    isplitl [Ht]; · iexact Ht
    isplitl [Hs Hs0 Hs1]
    · rw [payload_crd0, nxt_prv]; unfold slots
      isplitl [Hs Hs0 Hs1]
      · isplitl [Hs0]; · iexact Hs0
        isplitl [Hs1]; · iexact Hs1
        iapply (holds_any c (slotM 2) _); iexact Hs
      isplitr; · iexact Hr0
      isplitr; · iexact Hr1
      iexact Hr
    isplitr; · iexact Hrp
    isplitl [Hcr] <;> iassumption
  iintro ⟨Ho, Hat2, Hr2, Hps⟩
  ihave Hps := (Entails.of_eq (rest_crd0 m c)) $$ Hps
  iapply run_ret
  iapply Hk
  isplitl [Ho]; · iexact Ho
  isplitl [Hd]; · iapply (holds_any c (ldM) _); iexact Hd
  isplitl [Hf]; · iexact Hf
  isplitl [Hat]; · iexact Hat
  isplitl [Hat2]; · iexact Hat2
  isplitl [Hr2]; · iexact Hr2
  iexact Hps

/-- The first hop of the second half: the block is copied in, sent, and the send waited for. -/
theorem part7_run (v2 v8 v10 v165 w : BitVec 32) :
    iprop(invs m K ∗ own m c 6 ∗ any c s0M ∗ hop c 0 1 ∗ atPos ER (sndC c 0) 1 ∅ 0)
      ⊢ iprop(((own m c 7 ∗ any c s0M ∗ atPos ER (sndC c 0) 2 ∅ 0 ∗ reached ER (sndC c 0) 2) -∗ Q ⟨⟩)
        -∗ run c (k0_part7 (F := F) xM (Memref.isWhole_whole _) gM (Memref.isWhole_whole _) oM (Memref.isWhole_whole _) s0M (Memref.isWhole_whole _)
          ldM (Memref.isWhole_whole _) cmM (Memref.isWhole_whole _) cc0_scratch3 cc0_scratch4 cc0_scratch5 cc0_scratch6 c v2 v8 v10 v165 w) Q) := by
  simp only [k0_part7_eq_skeleton]; unfold k0_part7_skel
  simp only [semSignalWord, semWaitWord, Prog.lift, Prog.bind_op, Prog.bind_ret, Prog.pure_eq_ret]
  iintro ⟨#HI, Ho, Hd, Hh, Hat⟩ Hk
  iapply (copy_run m K c (k0_off4 c) (k0_off4_inb c) (yy c + 3) 1 rfl (k0_off4_eq c) rfl rfl (dst := s0M) rfl) $$ [Ho Hd]
  · isplitr; · iexact HI
    isplitl [Ho]; · iexact Ho
    iexact Hd
  iintro ⟨Ho, Hd⟩
  iapply (send_run m K c 0 (n := 6) (i := 6) 1 (by decide) (O_step c 6 _ rfl) rfl rfl rfl rfl (right_eq c _ (k0_dev7_eq c))) $$ [Ho Hd Hh]
  · isplitr; · iexact HI
    isplitl [Ho]; · iexact Ho
    isplitl [Hd]; · iexact Hd
    iexact Hh
  iintro ⟨Ho, Hc⟩
  iapply (sent_run m K c 0 (n := 7) 1 (by decide) (dst := srcM 0) rfl rfl) $$ [Ho Hc Hat]
  · isplitr; · iexact HI
    isplitl [Ho]; · iexact Ho
    isplitl [Hc]; · iexact Hc
    iexact Hat
  iintro ⟨Ho, Hat, Hr, Hs⟩
  iapply run_ret
  iapply Hk
  isplitl [Ho]; · iexact Ho
  isplitl [Hs]; · iapply (holds_any c (s0M) _); iexact Hs
  isplitl [Hat]; · iexact Hat
  iexact Hr

/-- The first hop is received and the block is added, in the second half. -/
theorem part8_run (v2 v5 v8 v10 : BitVec 32) :
    iprop(invs m K ∗ own m c 7 ∗ cred (tallyAt (rcvC c 0) 6 N) ∗ atPos ER (rcvC c 0) 1 ∅ 0 ∗ any c ldM)
      ⊢ iprop(((own m c 7 ∗ atPos ER (rcvC c 0) 2 ∅ 0 ∗ reached ER (crdC (prv c)) 1 ∗ holds c (slotM 0) (sent m 1 1 c) ∗ any c ldM) -∗ Q ⟨⟩)
        -∗ run c (k0_part8 (F := F) xM (Memref.isWhole_whole _) gM (Memref.isWhole_whole _) oM (Memref.isWhole_whole _) s0M (Memref.isWhole_whole _)
          ldM (Memref.isWhole_whole _) cmM (Memref.isWhole_whole _) cc0_scratch3 cc0_scratch4 cc0_scratch5 cc0_scratch6 c v2 v5 v8 v10) Q) := by
  simp only [k0_part8_eq_skeleton]; unfold k0_part8_skel
  simp only [semSignalWord, semWaitWord, Prog.lift, Prog.bind_op, Prog.bind_ret, Prog.pure_eq_ret]
  iintro ⟨#HI, Ho, Hc, Hat, Hd⟩ Hk
  iapply (rcvd_run m K c 0 (n := 7) (i := 6) 1 (by decide) (by decide) (by decide +kernel) (dst := slotM 0) rfl rfl) $$ [Ho Hc Hat]
  · isplitr; · iexact HI
    isplitl [Ho]; · iexact Ho
    isplitl [Hc]; · iexact Hc
    iexact Hat
  iintro ⟨Ho, Hat, Hr, Hs, Hp⟩
  iapply (copy_run m K c (k0_off5 c 0#32) (k0_off5_inb c 0) (yy c + 6 - 0) 1 rfl (k0_off5_eq c 0) rfl rfl (dst := ldM) rfl) $$ [Ho Hd]
  · isplitr; · iexact HI
    isplitl [Ho]; · iexact Ho
    iexact Hd
  iintro ⟨Ho, Hd⟩
  iapply (step_acc c 0 (pay := k0_pay5) (got m 1 0 c) (blk m c (yy c + 6 - 0) 1) pay_acc) $$ [Hs Hd]
  · isplitl [Hs]; · iexact Hs
    iexact Hd
  iintro ⟨Hs, Hd⟩
  iapply run_ret
  iapply Hk
  isplitl [Ho]; · iexact Ho
  isplitl [Hat]; · iexact Hat
  isplitl [Hp]; · iexact Hp
  isplitl [Hs]; · iexact Hs
  iapply (holds_any c (ldM) _); iexact Hd

/-- The second hop is sent and waited for, received, and the next block copied in, in the second half. -/
theorem part9_run (v2 v5 v8 v10 : BitVec 32) :
    iprop(invs m K ∗ own m c 7 ∗ holds c (slotM 0) (sent m 1 1 c) ∗ hop c 1 1 ∗ atPos ER (sndC c 1) 1 ∅ 0 ∗ cred (tallyAt (rcvC c 1) 7 N) ∗ atPos ER (rcvC c 1) 1 ∅ 0 ∗ any c ldM)
      ⊢ iprop(((own m c 8 ∗ atPos ER (sndC c 1) 2 ∅ 0 ∗ any c (slotM 0) ∗ atPos ER (rcvC c 1) 2 ∅ 0 ∗ holds c (slotM 1) (got m 1 1 c) ∗ holds c ldM (blk m c (yy c + 6 - 1) 1)) -∗ Q ⟨⟩)
        -∗ run c (k0_part9 (F := F) xM (Memref.isWhole_whole _) gM (Memref.isWhole_whole _) oM (Memref.isWhole_whole _) s0M (Memref.isWhole_whole _)
          ldM (Memref.isWhole_whole _) cmM (Memref.isWhole_whole _) cc0_scratch3 cc0_scratch4 cc0_scratch5 cc0_scratch6 c v2 v5 v8 v10) Q) := by
  simp only [k0_part9_eq_skeleton]; unfold k0_part9_skel
  simp only [semSignalWord, semWaitWord, Prog.lift, Prog.bind_op, Prog.bind_ret, Prog.pure_eq_ret]
  iintro ⟨#HI, Ho, Hs, Hh, Hat, Hc2, Hat2, Hd⟩ Hk
  iapply (send_run m K c 1 (n := 7) (i := 7) 1 (by decide) (O_step c 7 _ rfl) rfl rfl rfl rfl (right_eq c _ (k0_dev8_eq c))) $$ [Ho Hs Hh]
  · isplitr; · iexact HI
    isplitl [Ho]; · iexact Ho
    isplitl [Hs]; · iexact Hs
    iexact Hh
  iintro ⟨Ho, Hc⟩
  iapply (sent_run m K c 1 (n := 8) 1 (by decide) (dst := srcM 1) rfl rfl) $$ [Ho Hc Hat]
  · isplitr; · iexact HI
    isplitl [Ho]; · iexact Ho
    isplitl [Hc]; · iexact Hc
    iexact Hat
  iintro ⟨Ho, Hat, Hr, Hs⟩
  iapply (rcvd_run m K c 1 (n := 8) (i := 7) 1 (by decide) (by decide) (by decide +kernel) (dst := slotM 1) rfl rfl) $$ [Ho Hc2 Hat2]
  · isplitr; · iexact HI
    isplitl [Ho]; · iexact Ho
    isplitl [Hc2]; · iexact Hc2
    iexact Hat2
  iintro ⟨Ho, Hat2, Hr2, Hs2, Hp⟩
  iapply (copy_run m K c (k0_off5 c 1#32) (k0_off5_inb c 1) (yy c + 6 - 1) 1 rfl (k0_off5_eq c 1) rfl rfl (dst := ldM) rfl) $$ [Ho Hd]
  · isplitr; · iexact HI
    isplitl [Ho]; · iexact Ho
    iexact Hd
  iintro ⟨Ho, Hd⟩
  iapply run_ret
  iapply Hk
  isplitl [Ho]; · iexact Ho
  isplitl [Hat]; · iexact Hat
  isplitl [Hs]; · iapply (holds_any c (slotM 0) _); iexact Hs
  isplitl [Hat2]; · iexact Hat2
  isplitl [Hs2]; · iexact Hs2
  iexact Hd

/-- The block is added, and the third hop sent and waited for, in the second half. -/
theorem part10_run (v2 v8 v10 : BitVec 32) :
    iprop(invs m K ∗ own m c 8 ∗ holds c (slotM 1) (got m 1 1 c) ∗ holds c ldM (blk m c (yy c + 6 - 1) 1) ∗ hop c 2 1 ∗ atPos ER (sndC c 2) 1 ∅ 0)
      ⊢ iprop(((own m c 9 ∗ any c ldM ∗ any c (slotM 1) ∗ atPos ER (sndC c 2) 2 ∅ 0 ∗ reached ER (sndC c 2) 2) -∗ Q ⟨⟩)
        -∗ run c (k0_part10 (F := F) xM (Memref.isWhole_whole _) gM (Memref.isWhole_whole _) oM (Memref.isWhole_whole _) s0M (Memref.isWhole_whole _)
          ldM (Memref.isWhole_whole _) cmM (Memref.isWhole_whole _) cc0_scratch3 cc0_scratch4 cc0_scratch5 cc0_scratch6 c v2 v8 v10) Q) := by
  simp only [k0_part10_eq_skeleton]; unfold k0_part10_skel
  simp only [semSignalWord, semWaitWord, Prog.lift, Prog.bind_op, Prog.bind_ret, Prog.pure_eq_ret]
  iintro ⟨#HI, Ho, Hs, Hd, Hh, Hat⟩ Hk
  iapply (step_acc c 1 (pay := k0_pay6) (got m 1 1 c) (blk m c (yy c + 6 - 1) 1) pay_acc) $$ [Hs Hd]
  · isplitl [Hs]; · iexact Hs
    iexact Hd
  iintro ⟨Hs, Hd⟩
  iapply (send_run m K c 2 (n := 8) (i := 8) 1 (by decide) (O_step c 8 _ rfl) rfl rfl rfl rfl (right_eq c _ (k0_dev9_eq c))) $$ [Ho Hs Hh]
  · isplitr; · iexact HI
    isplitl [Ho]; · iexact Ho
    isplitl [Hs]; · iexact Hs
    iexact Hh
  iintro ⟨Ho, Hc⟩
  iapply (sent_run m K c 2 (n := 9) 1 (by decide) (dst := srcM 2) rfl rfl) $$ [Ho Hc Hat]
  · isplitr; · iexact HI
    isplitl [Ho]; · iexact Ho
    isplitl [Hc]; · iexact Hc
    iexact Hat
  iintro ⟨Ho, Hat, Hr, Hs⟩
  iapply run_ret
  iapply Hk
  isplitl [Ho]; · iexact Ho
  isplitl [Hd]; · iapply (holds_any c (ldM) _); iexact Hd
  isplitl [Hs]; · iapply (holds_any c (slotM 1) _); iexact Hs
  isplitl [Hat]; · iexact Hat
  iexact Hr

/-- The third hop is received, the sum of the second half is put in the result, and credit is given and taken. -/
theorem part11_run (v2 v5 v8 v10 v13 : BitVec 32) (f : Buf (Elt F) ((c : Thread nD τ).loc cc0_stg1_0)) :
    iprop(invs m K ∗ own m c 9 ∗ cred (tallyAt (rcvC c 2) 8 N) ∗ atPos ER (rcvC c 2) 1 ∅ 0 ∗ any c ldM ∗ ((c : Thread nD τ).loc cc0_stg1_0 ↦{fullShare} f) ∗ dutyTok ER (crdC (prv c)) 1 c ∗ reached ER (crdC (prv c)) 1 ∗ cred (tallyAt (crdC c) 9 1) ∗ atPos ER (crdC c) 1 ∅ 0)
      ⊢ iprop(((own m c 10 ∗ any c ldM ∗ (((c : Thread nD τ).loc cc0_stg1_0) ↦{fullShare} ((oM.access (Rect.unit (s := S2048x2048) ![0, 1024] S2048x1024.size inb_S2048x2048_S2048x1024_0_1024)).write (Elt F) f (summed m 1 c) Finset.univ)) ∗ atPos ER (rcvC c 2) 2 ∅ 0 ∗ atPos ER (crdC c) 2 ∅ 0 ∗ any c (slotM 2)) -∗ Q ⟨⟩)
        -∗ run c (k0_part11 (F := F) xM (Memref.isWhole_whole _) gM (Memref.isWhole_whole _) oM (Memref.isWhole_whole _) s0M (Memref.isWhole_whole _)
          ldM (Memref.isWhole_whole _) cmM (Memref.isWhole_whole _) cc0_scratch3 cc0_scratch4 cc0_scratch5 cc0_scratch6 c v2 v5 v8 v10 v13) Q) := by
  simp only [k0_part11_eq_skeleton]; unfold k0_part11_skel
  simp only [semSignalWord, semWaitWord, Prog.lift, Prog.bind_op, Prog.bind_ret, Prog.pure_eq_ret]
  iintro ⟨#HI, Ho, Hc, Hat, Hd, Hf, Ht, #Hrp, Hcr, Hat2⟩ Hk
  iapply (rcvd_run m K c 2 (n := 9) (i := 8) 1 (by decide) (by decide) (by decide +kernel) (dst := slotM 2) rfl rfl) $$ [Ho Hc Hat]
  · isplitr; · iexact HI
    isplitl [Ho]; · iexact Ho
    isplitl [Hc]; · iexact Hc
    iexact Hat
  iintro ⟨Ho, Hat, #Hr, Hs, Hp⟩
  iapply (copy_run m K c (k0_off6 c) (k0_off6_inb c) (yy c) 1 rfl (off_own c 1 (k0_off6_eq c)) rfl rfl (dst := ldM) rfl) $$ [Ho Hd]
  · isplitr; · iexact HI
    isplitl [Ho]; · iexact Ho
    iexact Hd
  iintro ⟨Ho, Hd⟩
  iapply (step_out c 2 (pay := k0_pay7) (got m 1 2 c) (blk m c (yy c) 1) f (fun _ _ => rfl)) $$ [Hs Hd Hf]
  · isplitl [Hs]; · iexact Hs
    isplitl [Hd] <;> iassumption
  iintro ⟨Hs, Hd, Hf⟩
  iapply (credit_run m K c (n := 9) (i := 9) 1 (by decide) (by decide) (by decide +kernel) (O_step c 9 _ rfl) rfl rfl (left_eq c _ (k0_dev10_eq c))) $$ [Ho Ht Hcr Hat2]
  · isplitr; · iexact HI
    isplitl [Ho]; · iexact Ho
    isplitl [Ht]; · iexact Ht
    isplitr
    · rw [payload_crd1]; iempintro
    isplitr; · iexact Hrp
    isplitl [Hcr] <;> iassumption
  iintro ⟨Ho, Hat2, Hr2, -⟩
  iapply run_ret
  iapply Hk
  isplitl [Ho]; · iexact Ho
  isplitl [Hd]; · iapply (holds_any c (ldM) _); iexact Hd
  isplitl [Hf]; · iexact Hf
  isplitl [Hat]; · iexact Hat
  isplitl [Hat2]; · iexact Hat2
  iapply (holds_any c (slotM 2) _); iexact Hs

end Cert.KernelIdeal.Ring

end
-- ==== Proof.RingIdeal.Body.lean ====
/- The whole body of the ring kernel, run from its parts, and the opening and closing of the cells around it. -/
module

public import proofs.«01_k».proof.Proof.RingIdeal.Parts
public import Idealize.ShloMosaic.Lib.Ring.FamCut

@[expose] public section

set_option maxRecDepth 16384

noncomputable section

namespace Cert.KernelIdeal.Ring

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.TalkSites (Pay tallyL Fam)
open Idealize.ShloMosaic.SiteBlocks (L lv)

variable {F : FTy → Type} [FloatOps F]

local notation "𝕄" => MT nD τ sig ℕ (Elt F) ℕ UU ℕ

variable (m : (ℓ : Loc nD τ sig) → Buf (Elt F) ℓ) (K : GSem nD τ sig → ℕ) (c : Dev nD)
variable {Q : PUnit → sProp (MT nD τ sig ℕ (Elt F) ℕ UU ℕ)}

/-! ## What the body takes and gives back -/

/-- A device's positions: its barrier cell at round `b`, its other cells at round `r`. -/
def pos (b r : ℕ) : sProp 𝕄 :=
  iprop(atPos ER (barC c) b ∅ 0 ∗ (atPos ER (sndC c 0) r ∅ 0 ∗ atPos ER (sndC c 1) r ∅ 0 ∗ atPos ER (sndC c 2) r ∅ 0)
    ∗ (atPos ER (rcvC c 0) r ∅ 0 ∗ atPos ER (rcvC c 1) r ∅ 0 ∗ atPos ER (rcvC c 2) r ∅ 0) ∗ atPos ER (crdC c) r ∅ 0)

/-- The news that its own cells and its neighbors' barrier cells have begun. -/
def news : sProp 𝕄 :=
  iprop((reached ER (sndC c 0) 0 ∗ reached ER (sndC c 1) 0 ∗ reached ER (sndC c 2) 0)
    ∗ (reached ER (rcvC c 0) 0 ∗ reached ER (rcvC c 1) 0 ∗ reached ER (rcvC c 2) 0) ∗ reached ER (crdC c) 0
    ∗ reached ER (barC (prv c)) 0 ∗ reached ER (barC (nxt c)) 0)
instance news_persistent : BI.Persistent (news (F := F) c) := by unfold news; infer_instance

/-- The tokens of the two duties of hop `h` of half `t`. -/
def hopTok (h : Fin 3) (t : ℕ) : sProp 𝕄 := iprop(dutyTok ER (sndC c h) t c ∗ dutyTok ER (rcvC (nxt c) h) t c)
/-- The tokens of half `t`: those of its three hops and that of the credit. -/
def halfTok (t : ℕ) : sProp 𝕄 := iprop(hopTok c 0 t ∗ hopTok c 1 t ∗ hopTok c 2 t ∗ dutyTok ER (crdC (prv c)) t c)
/-- The tokens of every duty the device pays. -/
def allTok : sProp 𝕄 := iprop((dutyTok ER (barC (prv c)) 0 c ∗ dutyTok ER (barC (nxt c)) 0 c) ∗ halfTok c 0 ∗ halfTok c 1)

/-- What the neighbors will pay the device in half `t`. -/
def halfCred (t : ℕ) : sProp 𝕄 :=
  iprop(cred (tallyAt (rcvC c 0) (2 + 4 * t) N) ∗ cred (tallyAt (rcvC c 1) (3 + 4 * t) N) ∗ cred (tallyAt (rcvC c 2) (4 + 4 * t) N)
    ∗ cred (tallyAt (crdC c) (5 + 4 * t) 1))
/-- What the neighbors will pay the device. -/
def allCred : sProp 𝕄 := iprop(cred (tallyAt (barC c) 1 2) ∗ halfCred c 0 ∗ halfCred c 1)

/-- The scratch buffers and the slots at some contents. -/
def mems : sProp 𝕄 := iprop((any c s0M ∗ any c ldM) ∗ any c (slotM 0) ∗ any c (slotM 1) ∗ any c (slotM 2))

/-- The root-mean-square norm of the finished sums, times the gain `g`. -/
def outcome (g : Vec F S1x2048 .f32) : Vec F S2048x2048 .f32 := k0_pay1 (joined (summed m 0 c) (summed m 1 c)) g

/-- A hop takes a free slot of the right neighbor, its tokens, and the news of the three cells. -/
theorem hop_intro (h : Fin 3) (t : ℕ) :
    iprop(any (nxt c) (slotM h) ∗ hopTok c h t ∗ reached ER (crdC c) t ∗ reached ER (sndC c h) t ∗ reached ER (rcvC (nxt c) h) t) ⊢ hop (F := F) c h t := by
  unfold hop hopTok
  iintro ⟨H, ⟨H1, H2⟩, #R1, #R2, #R3⟩
  isplitl [H]; · iexact H
  isplitr; · iexact R1
  isplitl [H1]; · iexact H1
  isplitr; · iexact R2
  isplitl [H2]; · iexact H2
  iexact R3

/-- A program run before another. -/
theorem run_bind {α β : Type} {p : Prog (TpuEff nD τ sig (Elt F) Λ₀ .tc) α} {k : α → Prog (TpuEff nD τ sig (Elt F) Λ₀ .tc) β}
    {Q : β → sProp (MT nD τ sig ℕ (Elt F) ℕ UU ℕ)} : run c p (fun a => run c (k a) Q) ⊢ run c (p >>= k) Q :=
  Entails.of_eq (wp_bind ..).symm

theorem body_run (g : Buf (Elt F) ((c : Thread nD τ).loc cc0_stg0_0)) (f : Buf (Elt F) ((c : Thread nD τ).loc cc0_stg1_0)) :
    iprop(invs m K ∗ pos c 0 0 ∗ news c ∗ allTok c ∗ allCred c ∗ own m c 0 ∗ mems c
        ∗ ((c : Thread nD τ).loc cc0_stg0_0 ↦{fullShare} g) ∗ ((c : Thread nD τ).loc cc0_stg1_0 ↦{fullShare} f))
      ⊢ iprop(((pos c 1 2 ∗ own m c 10 ∗ mems c
            ∗ ((c : Thread nD τ).loc cc0_stg0_0 ↦{fullShare} g) ∗ ((c : Thread nD τ).loc cc0_stg1_0 ↦{fullShare} outcome m c g)) -∗ |={Set.univ}=> Q ⟨⟩)
        -∗ run c (cc0_body (F := F) xM (Memref.isWhole_whole _) gM (Memref.isWhole_whole _) oM (Memref.isWhole_whole _) s0M (Memref.isWhole_whole _)
          ldM (Memref.isWhole_whole _) cmM (Memref.isWhole_whole _) cc0_scratch3 cc0_scratch4 cc0_scratch5 cc0_scratch6) Q) := by
  rw [cc0_body_eq_skeleton]; unfold cc0_body_skel
  unfold pos news allTok halfTok allCred halfCred mems outcome
  iintro ⟨#HI, ⟨Ab, ⟨As0, As1, As2⟩, ⟨Ar0, Ar1, Ar2⟩, Ac⟩, ⟨⟨#Rs0, #Rs1, #Rs2⟩, ⟨#Rr0, #Rr1, #Rr2⟩, #Rc, #Rbp, #Rbn⟩, ⟨⟨Tbp, Tbn⟩, ⟨Ta0, Ta1, Ta2, Tac⟩, ⟨Tb0, Tb1, Tb2, Tbc⟩⟩, ⟨Cb, ⟨Ca0, Ca1, Ca2, Cac⟩, ⟨Cb0, Cb1, Cb2, Cbc⟩⟩, Ho, ⟨⟨Hs, Hl⟩, H0, H1, H2⟩, Hg, Hf⟩ Hk
  ihave Ho := (show own m c 0 ⊢ iprop(xs m c ∗ semVal ((c : Thread nD τ), .dma ldS) 0 ∗ ow c 0) from by unfold own; iintro H; iexact H) $$ Ho
  icases Ho with ⟨Hx, Hv, Ho⟩
  ihave Hsl := (show iprop(any c (slotM 0) ∗ any c (slotM 1) ∗ any c (slotM 2) ∗ reached ER (rcvC c 0) 0 ∗ reached ER (rcvC c 1) 0 ∗ reached ER (rcvC c 2) 0)
      ⊢ slots (F := F) c 0 from by
    unfold slots; iintro ⟨H0, H1, H2, HR⟩
    isplitr [HR]
    · isplitl [H0]; · iexact H0
      isplitl [H1] <;> iassumption
    iexact HR) $$ [H0 H1 H2]
  · isplitl [H0]; · iexact H0
    isplitl [H1]; · iexact H1
    isplitl [H2]; · iexact H2
    isplitr; · iexact Rr0
    isplitr; · iexact Rr1
    iexact Rr2
  iapply run_bind
  iapply (part1_run m K c) $$ [Ho Hsl Cb Ab Tbp Tbn]
  · isplitr; · iexact HI
    isplitl [Ho]; · iexact Ho
    isplitl [Hsl]; · iexact Hsl
    isplitl [Cb]; · iexact Cb
    isplitl [Ab]; · iexact Ab
    isplitl [Tbp]; · iexact Tbp
    isplitl [Tbn]; · iexact Tbn
    isplitr; · iexact Rbp
    iexact Rbn
  iintro %v2 %v5 %v8 %v10 %v13 %v29 ⟨Ho, Hsl, Ab⟩
  unfold slots
  icases Hsl with ⟨⟨N0, N1, N2⟩, #Rn0, #Rn1, #Rn2⟩
  ihave Ho := (show iprop(xs m c ∗ semVal ((c : Thread nD τ), .dma ldS) 0 ∗ ow c 2) ⊢ own m c 2 from by unfold own; iintro H; iexact H) $$ [Hx Hv Ho]
  · isplitl [Hx]; · iexact Hx
    isplitl [Hv] <;> iassumption
  ihave Hh := (hop_intro c 0 0) $$ [N0 Ta0]
  · isplitl [N0]; · iexact N0
    isplitl [Ta0]; · iexact Ta0
    isplitr; · iexact Rc
    isplitr; · iexact Rs0
    iexact Rn0
  iapply run_bind
  iapply (part2_run m K c) $$ [Ho Hs Hh As0]
  · isplitr; · iexact HI
    isplitl [Ho]; · iexact Ho
    isplitl [Hs]; · iexact Hs
    isplitl [Hh]; · iexact Hh
    iexact As0
  iintro ⟨Ho, Hs, As0, #Rs0'⟩
  ihave Hh := (hop_intro c 1 0) $$ [N1 Ta1]
  · isplitl [N1]; · iexact N1
    isplitl [Ta1]; · iexact Ta1
    isplitr; · iexact Rc
    isplitr; · iexact Rs1
    iexact Rn1
  iapply run_bind
  iapply (part3_run m K c) $$ [Ho Ca0 Ar0 Hl Hh]
  · isplitr; · iexact HI
    isplitl [Ho]; · iexact Ho
    isplitl [Ca0]; · iexact Ca0
    isplitl [Ar0]; · iexact Ar0
    isplitl [Hl]; · iexact Hl
    iexact Hh
  iintro ⟨Ho, Cs1, Ar0, #Rr0', #Rp0, Hl⟩
  iapply run_bind
  iapply (part4_run m K c) $$ [Ho Cs1 As1 Ca1 Ar1 Hl]
  · isplitr; · iexact HI
    isplitl [Ho]; · iexact Ho
    isplitl [Cs1]; · iexact Cs1
    isplitl [As1]; · iexact As1
    isplitl [Ca1]; · iexact Ca1
    isplitl [Ar1]; · iexact Ar1
    iexact Hl
  iintro ⟨Ho, As1, #Rs1', H0, Ar1, #Rr1', H1, Hl⟩
  ihave Hh := (hop_intro c 2 0) $$ [N2 Ta2]
  · isplitl [N2]; · iexact N2
    isplitl [Ta2]; · iexact Ta2
    isplitr; · iexact Rc
    isplitr; · iexact Rs2
    iexact Rn2
  iapply run_bind
  iapply (part5_run m K c) $$ [Ho H1 Hl Hh As2]
  · isplitr; · iexact HI
    isplitl [Ho]; · iexact Ho
    isplitl [H1]; · iexact H1
    isplitl [Hl]; · iexact Hl
    isplitl [Hh]; · iexact Hh
    iexact As2
  iintro ⟨Ho, Hl, H1, As2, #Rs2'⟩
  iapply run_bind
  iapply (part6_run m K c) $$ [Ho Ca2 Ar2 Hl Hf Tac Cac Ac H0 H1]
  · isplitr; · iexact HI
    isplitl [Ho]; · iexact Ho
    isplitl [Ca2]; · iexact Ca2
    isplitl [Ar2]; · iexact Ar2
    isplitl [Hl]; · iexact Hl
    isplitl [Hf]; · iexact Hf
    isplitl [Tac]; · iexact Tac
    isplitr; · iexact Rp0
    isplitl [Cac]; · iexact Cac
    isplitl [Ac]; · iexact Ac
    isplitl [H0]; · iexact H0
    isplitl [H1]; · iexact H1
    isplitr; · iexact Rr0'
    iexact Rr1'
  iintro %v165 %w ⟨Ho, Hl, Hf, Ar2, Ac, #Rc', Hsl⟩
  unfold slots
  icases Hsl with ⟨⟨N0, N1, N2⟩, #Rn0', #Rn1', #Rn2'⟩
  ihave Hh := (hop_intro c 0 1) $$ [N0 Tb0]
  · isplitl [N0]; · iexact N0
    isplitl [Tb0]; · iexact Tb0
    isplitr; · iexact Rc'
    isplitr; · iexact Rs0'
    iexact Rn0'
  iapply run_bind
  iapply (part7_run m K c) $$ [Ho Hs Hh As0]
  · isplitr; · iexact HI
    isplitl [Ho]; · iexact Ho
    isplitl [Hs]; · iexact Hs
    isplitl [Hh]; · iexact Hh
    iexact As0
  iintro ⟨Ho, Hs, As0, -⟩
  iapply run_bind
  iapply (part8_run m K c) $$ [Ho Cb0 Ar0 Hl]
  · isplitr; · iexact HI
    isplitl [Ho]; · iexact Ho
    isplitl [Cb0]; · iexact Cb0
    isplitl [Ar0]; · iexact Ar0
    iexact Hl
  iintro ⟨Ho, Ar0, #Rp1, H0, Hl⟩
  ihave Hh := (hop_intro c 1 1) $$ [N1 Tb1]
  · isplitl [N1]; · iexact N1
    isplitl [Tb1]; · iexact Tb1
    isplitr; · iexact Rc'
    isplitr; · iexact Rs1'
    iexact Rn1'
  iapply run_bind
  iapply (part9_run m K c) $$ [Ho H0 Hh As1 Cb1 Ar1 Hl]
  · isplitr; · iexact HI
    isplitl [Ho]; · iexact Ho
    isplitl [H0]; · iexact H0
    isplitl [Hh]; · iexact Hh
    isplitl [As1]; · iexact As1
    isplitl [Cb1]; · iexact Cb1
    isplitl [Ar1]; · iexact Ar1
    iexact Hl
  iintro ⟨Ho, As1, H0, Ar1, H1, Hl⟩
  ihave Hh := (hop_intro c 2 1) $$ [N2 Tb2]
  · isplitl [N2]; · iexact N2
    isplitl [Tb2]; · iexact Tb2
    isplitr; · iexact Rc'
    isplitr; · iexact Rs2'
    iexact Rn2'
  iapply run_bind
  iapply (part10_run m K c) $$ [Ho H1 Hl Hh As2]
  · isplitr; · iexact HI
    isplitl [Ho]; · iexact Ho
    isplitl [H1]; · iexact H1
    isplitl [Hl]; · iexact Hl
    isplitl [Hh]; · iexact Hh
    iexact As2
  iintro ⟨Ho, Hl, H1, As2, -⟩
  iapply run_bind
  iapply (part11_run m K c) $$ [Ho Cb2 Ar2 Hl Hf Tbc Cbc Ac]
  · isplitr; · iexact HI
    isplitl [Ho]; · iexact Ho
    isplitl [Cb2]; · iexact Cb2
    isplitl [Ar2]; · iexact Ar2
    isplitl [Hl]; · iexact Hl
    isplitl [Hf]; · iexact Hf
    isplitl [Tbc]; · iexact Tbc
    isplitr; · iexact Rp1
    isplitl [Cbc]; · iexact Cbc
    iexact Ac
  iintro ⟨Ho, Hl, Hf, Ar2, Ac, H2⟩
  rw [write_halves]
  simp only [Prog.lift, Prog.bind_op, Prog.bind_ret, Prog.pure_eq_ret]
  iapply (step_final c (pay := k0_pay1) (joined (summed m 0 c) (summed m 1 c)) g) $$ [Hg Hf]
  · isplitl [Hg] <;> iassumption
  iintro ⟨Hg, Hf⟩
  iapply (show iprop(|={Set.univ}=> Q ⟨⟩) ⊢ run c (.ret ⟨⟩) Q from by unfold run; rw [wp_ret])
  iapply Hk
  isplitl [Ab As0 As1 As2 Ar0 Ar1 Ar2 Ac]
  · isplitl [Ab]; · iexact Ab
    isplitl [As0 As1 As2]
    · isplitl [As0]; · iexact As0
      isplitl [As1] <;> iassumption
    isplitl [Ar0 Ar1 Ar2]
    · isplitl [Ar0]; · iexact Ar0
      isplitl [Ar1] <;> iassumption
    iexact Ac
  isplitl [Ho]; · iexact Ho
  isplitl [Hs Hl H0 H1 H2]
  · isplitl [Hs Hl]; · isplitl [Hs] <;> iassumption
    isplitl [H0]; · iexact H0
    isplitl [H1] <;> iassumption
  isplitl [Hg] <;> iassumption

/-! ## The slots of the slot buffer -/

theorem slots_disj (h h' : Fin 3) (e : h ≠ h') : Disjoint (slotM h).view.set (slotM h').view.set := by
  rw [slot_set, slot_set]
  rw [Finset.disjoint_left]
  rintro i h1 h2
  obtain ⟨x, -, hx⟩ := Finset.mem_map.mp h1
  obtain ⟨y, -, hy⟩ := Finset.mem_map.mp h2
  have e1 : h.val + 1 * (x 0).val = (i 0).val := congrArg (fun y : S3x2048x1024.Idx => (y 0).val) hx
  have e2 : h'.val + 1 * (y 0).val = (i 0).val := congrArg (fun y : S3x2048x1024.Idx => (y 0).val) hy
  have b1 : (x 0).val < 1 := (x 0).isLt
  have b2 : (y 0).val < 1 := (y 0).isLt
  exact e (Fin.ext (by omega))

/-- The elements of the slot buffer that lie in slot `h`. -/
def slotI (h : Fin 3) : Finset (Idx ((c : Thread nD τ).loc cc0_scratch2)) := (slotM h).view.set
/-- What the slots leave of the slot buffer. -/
def slotRest : sProp 𝕄 := iprop(∃ f, ((c : Thread nD τ).loc cc0_scratch2) ↦[Ring.restOf (slotI c)]{fullShare} f)

theorem bigSep_three (Φ : Fin 3 → sProp (MT nD τ sig ℕ (Elt F) ℕ UU ℕ)) : bigSep Finset.univ Φ = iprop(Φ 0 ∗ Φ 1 ∗ Φ 2) :=
  bigSep_univ_eq_bigSepL [0, 1, 2] (by decide) (by decide) Φ

theorem slots_cut : (iprop(∃ f, ((c : Thread nD τ).loc cc0_scratch2) ↦{fullShare} f) : sProp 𝕄)
    ⊢ iprop((any c (slotM 0) ∗ any c (slotM 1) ∗ any c (slotM 2)) ∗ slotRest c) := by
  have h := Ring.fam_split_ex (Ix := ℕ) (Val := Elt F) (Name := ℕ) (U := UU) (Lvl := ℕ) (slotI c) (slots_disj) (q := fullShare)
  rw [bigSep_three] at h
  exact h

theorem slots_join : iprop((any c (slotM 0) ∗ any c (slotM 1) ∗ any c (slotM 2)) ∗ slotRest c)
    ⊢ (iprop(∃ f, ((c : Thread nD τ).loc cc0_scratch2) ↦{fullShare} f) : sProp 𝕄) := by
  have h (f₀) := Ring.fam_join (Ix := ℕ) (Val := Elt F) (Name := ℕ) (U := UU) (Lvl := ℕ) (slotI c) (slots_disj) (q := fullShare) f₀
  unfold slotRest
  iintro ⟨H, ⟨%f, HR⟩⟩
  iapply (h f)
  rw [bigSep_three]
  isplitl [H]; · iexact H
  iexists f; iexact HR

end Cert.KernelIdeal.Ring

end
-- ==== Proof.RingIdeal.Region.lean ====
/- The kernel's launch as a region of the program: its proof data, the obligation of its body, and the region's entry and exit. -/
module

public import proofs.«01_k».proof.Proof.RingIdeal.Body
public import proofs.«01_k».proof.Proof.Gen.KernelIdeal.Launch
public import proofs.«01_k».proof.Proof.Gen.KernelIdeal.Points
public import Idealize.ShloMosaic.Lib.Pipeline.RegionTalk

@[expose] public section

set_option maxRecDepth 16384

noncomputable section

namespace Cert.KernelIdeal.Ring

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.TalkSites (Pay tallyL Fam)
open Idealize.ShloMosaic.SiteBlocks (L lv)
open Idealize.ShloMosaic.Pipeline (Dat BodyObligation)

variable {F : FTy → Type} [FloatOps F]

local notation "𝕄" => MT nD τ sig ℕ (Elt F) ℕ UU ℕ

variable (m : (ℓ : Loc nD τ sig) → Buf (Elt F) ℓ) (K : GSem nD τ sig → ℕ) (c : Dev nD)

/-! ## The kernel's own semaphores -/

/-- The semaphores that are the kernel's own: three for sends, three for receives, the credit's, the loads'. -/
abbrev osem : Fin 8 → SemLoc sig := fun
  | 0 => .dma (sndS 0) | 1 => .dma (sndS 1) | 2 => .dma (sndS 2) | 3 => .dma (rcvS 0) | 4 => .dma (rcvS 1) | 5 => .dma (rcvS 2)
  | 6 => .reg crdS | 7 => .dma ldS

/-- They are scoped, distinct, and no window's. -/
theorem ownSemFacts : Pipeline.OwnSemFacts spec0 osem := by decide

/-- The counters of the seven cells that the region opens, at zero. -/
def zeros : sProp 𝕄 :=
  iprop((semVal (sndC c 0) 0 ∗ semVal (sndC c 1) 0 ∗ semVal (sndC c 2) 0) ∗ (semVal (rcvC c 0) 0 ∗ semVal (rcvC c 1) 0 ∗ semVal (rcvC c 2) 0)
    ∗ semVal (crdC c) 0)

theorem ownSems_list : (Pipeline.ownSems0 osem c : sProp 𝕄)
    = iprop(semVal (sndC c 0) 0 ∗ semVal (sndC c 1) 0 ∗ semVal (sndC c 2) 0 ∗ semVal (rcvC c 0) 0 ∗ semVal (rcvC c 1) 0 ∗ semVal (rcvC c 2) 0
      ∗ semVal (crdC c) 0 ∗ semVal ((c : Thread nD τ), .dma ldS) 0) := by
  unfold Pipeline.ownSems0
  rw [bigSep_univ_eq_bigSepL [0, 1, 2, 3, 4, 5, 6, 7] (by decide) (by decide)]
  rfl

/-- The kernel's own counters at zero: the seven cells' and the loads'. -/
theorem ownSems_open : (Pipeline.ownSems0 osem c : sProp 𝕄) ⊢ iprop(zeros c ∗ semVal ((c : Thread nD τ), .dma ldS) 0) := by
  rw [ownSems_list]; unfold zeros
  iintro ⟨S0, S1, S2, R0, R1, R2, C, L⟩
  isplitr [L]
  · isplitl [S0 S1 S2]
    · isplitl [S0]; · iexact S0
      isplitl [S1] <;> iassumption
    isplitl [R0 R1 R2]
    · isplitl [R0]; · iexact R0
      isplitl [R1] <;> iassumption
    iexact C
  iexact L

theorem ownSems_close : iprop(zeros c ∗ semVal ((c : Thread nD τ), .dma ldS) 0) ⊢ (Pipeline.ownSems0 osem c : sProp 𝕄) := by
  rw [ownSems_list]; unfold zeros
  iintro ⟨⟨⟨S0, S1, S2⟩, ⟨R0, R1, R2⟩, C⟩, L⟩
  isplitl [S0]; · iexact S0
  isplitl [S1]; · iexact S1
  isplitl [S2]; · iexact S2
  isplitl [R0]; · iexact R0
  isplitl [R1]; · iexact R1
  isplitl [R2]; · iexact R2
  isplitl [C] <;> iassumption

/-! ## Opening and closing the cells -/

/-- A cell of the kernel's own, opened from the right to open it and its counter at zero. -/
theorem open_one {sm : SemLoc sig} (hs : sm ∈ dorms) :
    iprop(invs m K ∗ openTok ER ((c : Thread nD τ), sm) ∗ semVal ((c : Thread nD τ), sm) 0)
      ⊢ (|={Set.univ}=> iprop(atPos ER ((c : Thread nD τ), sm) 0 ∅ 0 ∗ reached ER ((c : Thread nD τ), sm) 0) : sProp 𝕄) := by
  iintro ⟨#HI, Ho, Hs⟩
  ihave #Hc := (inv_dorm m K c hs) $$ HI
  iapply (Rounds.cell_open ER (ringRd m) (g := ((c : Thread nD τ), sm)) (Set.mem_univ (K ((c : Thread nD τ), sm))))
  isplitr; · iexact Hc
  isplitl [Ho] <;> iassumption

/-- A cell of the kernel's own, closed after its two rounds: its counter is at zero. -/
theorem close_one {sm : SemLoc sig} (hs : sm ∈ dorms) :
    iprop(invs m K ∗ atPos ER ((c : Thread nD τ), sm) 2 ∅ 0) ⊢ (|={Set.univ}=> semVal ((c : Thread nD τ), sm) 0 : sProp 𝕄) := by
  iintro ⟨#HI, Ha⟩
  ihave #Hc := (inv_dorm m K c hs) $$ HI
  iapply (Rounds.cell_close ER (ringRd m) (Set.mem_univ (K ((c : Thread nD τ), sm))) (fun h => h) (R := 2) (duties_later m ((c : Thread nD τ), sm)))
  isplitr; · iexact Hc
  iexact Ha

/-- The barrier cell, closed after its one round. -/
theorem close_bar : iprop(invs m K ∗ atPos ER (barC c) 1 ∅ 0) ⊢ (|={Set.univ}=> semVal (barC c) 0 : sProp 𝕄) := by
  iintro ⟨#HI, Ha⟩
  ihave #Hc := (inv_bar m K c) $$ HI
  iapply (Rounds.cell_close ER (ringRd m) (Set.mem_univ (K (barC c))) (fun h => h) (R := 1) (duties_bar_later m c))
  isplitr; · iexact Hc
  iexact Ha

/-- The rights to open the kernel's own cells. -/
def opens : sProp 𝕄 :=
  iprop((openTok ER (sndC c 0) ∗ openTok ER (sndC c 1) ∗ openTok ER (sndC c 2)) ∗ (openTok ER (rcvC c 0) ∗ openTok ER (rcvC c 1) ∗ openTok ER (rcvC c 2))
    ∗ openTok ER (crdC c))

/-- All of the kernel's own cells are opened; with the barrier cell's position and news the device is ready to run. -/
theorem open_all : iprop(invs m K ∗ opens c ∗ zeros c ∗ atPos ER (barC c) 0 ∅ 0 ∗ reached ER (barC (prv c)) 0 ∗ reached ER (barC (nxt c)) 0)
    ⊢ (|={Set.univ}=> iprop(pos c 0 0 ∗ news c) : sProp 𝕄) := by
  unfold opens zeros pos news
  iintro ⟨#HI, ⟨⟨O0, O1, O2⟩, ⟨P0, P1, P2⟩, OC⟩, ⟨⟨S0, S1, S2⟩, ⟨R0, R1, R2⟩, C⟩, Ab, #Hp, #Hn⟩
  imod (open_one m K c (snd_dorm 0)) $$ [O0 S0] with ⟨A0, #N0⟩
  · isplitr; · iexact HI
    isplitl [O0] <;> iassumption
  imod (open_one m K c (snd_dorm 1)) $$ [O1 S1] with ⟨A1, #N1⟩
  · isplitr; · iexact HI
    isplitl [O1] <;> iassumption
  imod (open_one m K c (snd_dorm 2)) $$ [O2 S2] with ⟨A2, #N2⟩
  · isplitr; · iexact HI
    isplitl [O2] <;> iassumption
  imod (open_one m K c (rcv_dorm 0)) $$ [P0 R0] with ⟨B0, #M0⟩
  · isplitr; · iexact HI
    isplitl [P0] <;> iassumption
  imod (open_one m K c (rcv_dorm 1)) $$ [P1 R1] with ⟨B1, #M1⟩
  · isplitr; · iexact HI
    isplitl [P1] <;> iassumption
  imod (open_one m K c (rcv_dorm 2)) $$ [P2 R2] with ⟨B2, #M2⟩
  · isplitr; · iexact HI
    isplitl [P2] <;> iassumption
  imod (open_one m K c crd_dorm) $$ [OC C] with ⟨AC, #NC⟩
  · isplitr; · iexact HI
    isplitl [OC] <;> iassumption
  imodintro
  isplitl [Ab A0 A1 A2 B0 B1 B2 AC]
  · isplitl [Ab]; · iexact Ab
    isplitl [A0 A1 A2]
    · isplitl [A0]; · iexact A0
      isplitl [A1] <;> iassumption
    isplitl [B0 B1 B2]
    · isplitl [B0]; · iexact B0
      isplitl [B1] <;> iassumption
    iexact AC
  isplitr
  · isplitr; · iexact N0
    isplitr; · iexact N1
    iexact N2
  isplitr
  · isplitr; · iexact M0
    isplitr; · iexact M1
    iexact M2
  isplitr; · iexact NC
  isplitr; · iexact Hp
  iexact Hn

/-- After the body every cell is closed, all counters at zero. -/
theorem close_all : iprop(invs m K ∗ pos c 1 2) ⊢ (|={Set.univ}=> iprop(semVal (barC c) 0 ∗ zeros c) : sProp 𝕄) := by
  unfold zeros pos
  iintro ⟨#HI, Ab, ⟨A0, A1, A2⟩, ⟨B0, B1, B2⟩, AC⟩
  imod (close_bar m K c) $$ [Ab] with Ab
  · isplitr; · iexact HI
    iexact Ab
  imod (close_one m K c (snd_dorm 0)) $$ [A0] with A0
  · isplitr; · iexact HI
    iexact A0
  imod (close_one m K c (snd_dorm 1)) $$ [A1] with A1
  · isplitr; · iexact HI
    iexact A1
  imod (close_one m K c (snd_dorm 2)) $$ [A2] with A2
  · isplitr; · iexact HI
    iexact A2
  imod (close_one m K c (rcv_dorm 0)) $$ [B0] with B0
  · isplitr; · iexact HI
    iexact B0
  imod (close_one m K c (rcv_dorm 1)) $$ [B1] with B1
  · isplitr; · iexact HI
    iexact B1
  imod (close_one m K c (rcv_dorm 2)) $$ [B2] with B2
  · isplitr; · iexact HI
    iexact B2
  imod (close_one m K c crd_dorm) $$ [AC] with AC
  · isplitr; · iexact HI
    iexact AC
  imodintro
  isplitl [Ab]; · iexact Ab
  isplitl [A0 A1 A2]
  · isplitl [A0]; · iexact A0
    isplitl [A1] <;> iassumption
  isplitl [B0 B1 B2]
  · isplitl [B0]; · iexact B0
    isplitl [B1] <;> iassumption
  iexact AC

/-! ## The proof data -/

/-- The kernel's scratch memory, each buffer at some contents. -/
def scratch : sProp 𝕄 :=
  iprop((∃ f : Buf (Elt F) ((c : Thread nD τ).loc cc0_scratch0), ((c : Thread nD τ).loc cc0_scratch0) ↦{fullShare} f)
    ∗ (∃ f : Buf (Elt F) ((c : Thread nD τ).loc cc0_scratch1), ((c : Thread nD τ).loc cc0_scratch1) ↦{fullShare} f)
    ∗ (∃ f : Buf (Elt F) ((c : Thread nD τ).loc cc0_scratch2), ((c : Thread nD τ).loc cc0_scratch2) ↦{fullShare} f))

/-- A whole buffer at some contents. -/
theorem any_whole {sp : Space} {s : Shape} (M : Memref sig .tc sp s .f32) (b : Ref sig .tc) (e : M.view.loc (c : Thread nD τ) = (c : Thread nD τ).loc b)
    (h : M.view.set = Finset.univ) :
    (any c M : sProp 𝕄) = iprop(∃ f : Buf (Elt F) (M.view.loc (c : Thread nD τ)), (M.view.loc (c : Thread nD τ)) ↦{fullShare} f) := by
  unfold any; rw [h]

theorem scratch_open : (scratch c : sProp 𝕄) ⊢ iprop(mems c ∗ slotRest c) := by
  unfold scratch mems
  rw [any_whole c s0M cc0_scratch0 rfl (View.set_whole _), any_whole c ldM cc0_scratch1 rfl (View.set_whole _)]
  iintro ⟨H0, H1, H2⟩
  ihave H := (slots_cut c) $$ H2
  icases H with ⟨⟨A, B, C⟩, HR⟩
  isplitr [HR]
  · isplitl [H0 H1]; · isplitl [H0] <;> iassumption
    isplitl [A]; · iexact A
    isplitl [B] <;> iassumption
  iexact HR

theorem scratch_close : iprop(mems c ∗ slotRest c) ⊢ (scratch c : sProp 𝕄) := by
  unfold scratch mems
  rw [any_whole c s0M cc0_scratch0 rfl (View.set_whole _), any_whole c ldM cc0_scratch1 rfl (View.set_whole _)]
  iintro ⟨⟨⟨H0, H1⟩, HS⟩, HR⟩
  isplitl [H0]; · iexact H0
  isplitl [H1]; · iexact H1
  iapply (slots_join c)
  isplitl [HS] <;> iassumption

/-- What the launch leaves each device for the region: the cells' invariants, the rights to open its own cells, its barrier cell's
    position, the news of its neighbors' barrier cells, the tokens of its duties, the credit of what it is to be paid. -/
def given : sProp 𝕄 :=
  iprop((∃ K, fam.cellInvs ER (ringRd m) K) ∗ opens c ∗ (atPos ER (barC c) 0 ∅ 0 ∗ reached ER (barC (prv c)) 0 ∗ reached ER (barC (nxt c)) 0)
    ∗ allTok c ∗ allCred c)

/-- What the body runs from, beside its buffers and its debt. -/
def ready : sProp 𝕄 :=
  iprop((∃ K, invs m K ∗ pos c 0 0 ∗ news c) ∗ allTok c ∗ allCred c ∗ semVal ((c : Thread nD τ), .dma ldS) 0)

/-- The gain row as the kernel reads it. -/
def gain : Buf (Elt F) ((c : Thread nD τ).loc main_v2) := V m c main_v2

/-- What the device's result block holds in the end. -/
def result : Buf (Elt F) ((c : Thread nD τ).loc main_v3) := outcome m c (gain m c)

/-- The proof data: the arrays as the region finds them; the staging buffers after the body; what the body runs from and leaves. -/
def dat0 : Dat τ (Elt F) ℕ ℕ UU ℕ cfg0 c where
  A w := V m c (Pipeline.arrRef spec0 w)
  after w _ := match w with
    | 0 => gain m c
    | 1 => result m c
    | ⟨_ + 2, h⟩ => absurd h (Nat.not_lt.2 (Nat.le_add_left _ _))
  Φ t := if t.val = 0 then iprop(ready m c ∗ xs m c ∗ scratch c ∗ ∃ r, prngReg c r)
    else iprop(semVal (barC c) 0 ∗ (zeros c ∗ semVal ((c : Thread nD τ), .dma ldS) 0) ∗ xs m c ∗ scratch c ∗ ∃ r, prngReg c r)
  q _ := fullShare
  owed t := if t.val = 0 then O c 0 else 0

/-- The kernel prefetches nothing. -/
abbrev adm (p : Fin 1) : (pcfgs (F := F) p).Adm := (cfgs p).toPCfg_adm

def pdats (p : Fin 1) (c : Dev nD) : Dat τ (Elt F) ℕ ℕ UU ℕ (Pipeline.pin (pcfgs (F := F)) adm p) c :=
  match p with
  | 0 => dat0 m c
  | ⟨_ + 1, h⟩ => absurd h (Nat.not_lt.2 (Nat.le_add_left _ _))

theorem owed_first : (dat0 m c).owed t0_0.castSucc = O c 0 := rfl
theorem owed_last : (dat0 m c).owed t0_0.succ = 0 := rfl

/-- Window 0's block is its whole array, -/
theorem read_gain (f : Buf (Elt F) ((c : Thread nD τ).loc main_v2)) : (win0_0.blk t0_0).view.read (Elt F) f = f :=
  Memref.read_access_unit_zero (Elt F) main_v2 (funext fun a => by fin_cases a <;> rfl) _ f
/-- and window 1's. -/
theorem read_result (f : Buf (Elt F) ((c : Thread nD τ).loc main_v3)) : (win0_1.blk t0_0).view.read (Elt F) f = f :=
  Memref.read_access_unit_zero (Elt F) main_v3 (funext fun a => by fin_cases a <;> rfl) _ f

theorem before_gain (d) : (dat0 m c).before 0 t0_0 d = gain m c := by
  unfold Dat.before; rw [if_pos (fetch0_0 t0_0)]
  exact read_gain c (V m c main_v2)

/-- A device's debt, as the pipeline states it, at any record of its waits. -/
theorem owesAt_intro (t : Fin (cfg0.N + 1)) (D : CellTallies nD τ sig ℕ) (h0 : (dat0 m c).owed t = D) :
    iprop(∃ W, owes (c : Thread nD τ) D W) ⊢ ((dat0 m c).owesAt 0 t : sProp 𝕄) := by
  unfold Dat.owesAt Pipeline.owesWithin Dat.bound; rw [h0]
  iintro ⟨%W, HO⟩; iexists W; isplitr; · ipureintro; exact fun _ _ => Or.inl trivial
  iexact HO
theorem owesAt_elim (t : Fin (cfg0.N + 1)) (D : CellTallies nD τ sig ℕ) (h0 : (dat0 m c).owed t = D) :
    ((dat0 m c).owesAt 0 t : sProp 𝕄) ⊢ iprop(∃ W, owes (c : Thread nD τ) D W) := by
  unfold Dat.owesAt Pipeline.owesWithin; rw [h0]
  iintro ⟨%W, -, HO⟩; iexists W; iexact HO

/-! ## The body's obligation -/

/-- A whole staging buffer at contents equal to `X`. -/
abbrev stg (b : Ref sig .tc) (X : b.ty.Contents (Elt F)) : sProp 𝕄 :=
  iprop(∃ f : Buf (Elt F) (((c : Dev nD) : Thread nD τ).loc b), ⌜f = X⌝ ∗ (((c : Thread nD τ).loc b) ↦{fullShare} f))

/-- What the body is handed. -/
def bodyPre : sProp 𝕄 :=
  iprop((dat0 m c).Φ t0_0.castSucc ∗ (dat0 m c).owesAt 0 t0_0.castSucc
    ∗ (∃ d, stg c cc0_stg0_0 ((dat0 m c).before 0 t0_0 d)) ∗ (∃ d, stg c cc0_stg1_0 ((dat0 m c).before 1 t0_0 d)))
/-- What the body leaves. -/
def bodyPost : sProp 𝕄 :=
  iprop((dat0 m c).Φ t0_0.succ ∗ (dat0 m c).owesAt 0 t0_0.succ ∗ stg c cc0_stg0_0 (gain m c) ∗ stg c cc0_stg1_0 (result m c))

/-- The body, run from what it is handed to what it leaves. -/
theorem body_sound : bodyPre m c ⊢ run c (cc0_body (F := F) xM (Memref.isWhole_whole _) gM (Memref.isWhole_whole _) oM (Memref.isWhole_whole _)
    s0M (Memref.isWhole_whole _) ldM (Memref.isWhole_whole _) cmM (Memref.isWhole_whole _) cc0_scratch3 cc0_scratch4 cc0_scratch5 cc0_scratch6)
    (fun _ => bodyPost m c) := by
  unfold bodyPre
  rw [show (dat0 m c).Φ t0_0.castSucc = iprop(ready m c ∗ xs m c ∗ scratch c ∗ ∃ r, prngReg c r) from rfl]
  iintro ⟨⟨Hr, Hx, Hs, Hp⟩, HO, ⟨%d0, %g, %hg, Hg⟩, ⟨%d1, %f, %hf, Hf⟩⟩
  obtain rfl : g = gain m c := hg.trans (before_gain m c d0)
  ihave Hr := (show ready m c ⊢ iprop((∃ K, invs m K ∗ pos c 0 0 ∗ news c) ∗ allTok c ∗ allCred c ∗ semVal ((c : Thread nD τ), .dma ldS) 0)
    from by unfold ready; iintro H; iexact H) $$ Hr
  icases Hr with ⟨⟨%K, #HI, HP, HN⟩, HT, HC, HL⟩
  ihave HO := (owesAt_elim m c _ _ (owed_first m c)) $$ HO
  ihave Hs := (scratch_open c) $$ Hs
  icases Hs with ⟨Hs, HR⟩
  iapply (body_run m K c (gain m c) f) $$ [HP HN HT HC HL HO Hx Hs Hg Hf]
  · isplitr; · iexact HI
    isplitl [HP]; · iexact HP
    isplitl [HN]; · iexact HN
    isplitl [HT]; · iexact HT
    isplitl [HC]; · iexact HC
    isplitl [HL HO Hx]
    · unfold own ow
      isplitl [Hx]; · iexact Hx
      isplitl [HL] <;> iassumption
    isplitl [Hs]; · iexact Hs
    isplitl [Hg] <;> iassumption
  iintro ⟨HP, Ho, Hs, Hg, Hf⟩
  imod (close_all m K c) $$ [HP] with ⟨Hb, HZ⟩
  · isplitr; · iexact HI
    iexact HP
  imodintro
  unfold bodyPost
  rw [show (dat0 m c).Φ t0_0.succ = iprop(semVal (barC c) 0 ∗ (zeros c ∗ semVal ((c : Thread nD τ), .dma ldS) 0) ∗ xs m c ∗ scratch c ∗ ∃ r, prngReg c r) from rfl]
  ihave Ho := (show own m c 10 ⊢ iprop(xs m c ∗ semVal ((c : Thread nD τ), .dma ldS) 0 ∗ ∃ W, owes (c : Thread nD τ) 0 W)
    from by unfold own ow; rw [O_end]) $$ Ho
  icases Ho with ⟨Hx, HL, HO⟩
  isplitl [Hb HZ HL Hx Hs HR Hp]
  · isplitl [Hb]; · iexact Hb
    isplitl [HZ HL]; · isplitl [HZ] <;> iassumption
    isplitl [Hx]; · iexact Hx
    isplitl [Hs HR]
    · iapply (scratch_close c)
      isplitl [Hs] <;> iassumption
    iexact Hp
  isplitl [HO]; · iapply (owesAt_intro m c _ _ (owed_last m c)); iexact HO
  isplitl [Hg]
  · iexists (gain m c); isplitr; · ipureintro; rfl
    iexact Hg
  iexists (outcome m c (gain m c)); isplitr; · ipureintro; rfl
  iexact Hf

theorem body_obligation : BodyObligation (dat0 m c) (defs₀ (F := F)) 𝒱₀ 0 Set.univ := fun t => by
  rw [fin_N0 t]
  rw [bigSep_W0, bigSep_W0]
  simp only [owns_whole_eq]
  exact body_sound m c

end Cert.KernelIdeal.Ring

end
-- ==== Proof.RingIdeal.Launch.lean ====
/- The program's segments: the host operations, then the kernel's region, with the buffers' contents between them. -/
module

public import proofs.«01_k».proof.Proof.RingIdeal.Region
public import proofs.«01_k».proof.Proof.Gen.KernelIdeal.Frame

@[expose] public section

set_option maxRecDepth 16384

noncomputable section

namespace Cert.KernelIdeal.Ring

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.TalkSites (Pay tallyL Fam)
open Idealize.ShloMosaic.SiteBlocks (L lv mem_L mem_L')
open Idealize.ShloMosaic.Pipeline (Dat BodyObligation)

variable {F : FTy → Type} [FloatOps F]

local notation "𝕄" => MT nD τ sig ℕ (Elt F) ℕ UU ℕ

variable (m : (ℓ : Loc nD τ sig) → Buf (Elt F) ℓ) (ρ : Dev nD → PrngReg) (c : Dev nD)

/-! ## The buffers -/

/-- A device's buffers that outlive the kernel. -/
def bufs : Finset (DevRef τ sig) := (StableHlo.tcRefs τ sig).filter fun b => ¬ b.isScoped
/-- Those of them that no window stages. -/
def others : Finset (DevRef τ sig) := {Proc.devRef .tc main_arg0, Proc.devRef .tc main_arg1, Proc.devRef .tc main_v1}

/-- One buffer, whole, at its contents in `W`. -/
abbrev pt (W : Valuation τ sig (Elt F)) (b : Ref sig .tc) : sProp 𝕄 := iprop(((c : Thread nD τ).loc b) ↦{fullShare} W (Proc.devRef .tc b))

theorem bufs_held (W : Valuation τ sig (Elt F)) : (unscopedBufs c (fun b => W b) : sProp 𝕄) = StableHlo.held (c : Thread nD τ) bufs W := by
  unfold unscopedBufs StableHlo.held bufs StableHlo.tcRefs
  rw [Finset.filter_map, BI.bigSep_map]
  rfl

theorem held_bufs (W : Valuation τ sig (Elt F)) : (StableHlo.held (c : Thread nD τ) bufs W : sProp 𝕄)
    = iprop(pt c W main_arg0 ∗ pt c W main_arg1 ∗ pt c W main_v1 ∗ pt c W main_v2 ∗ pt c W main_v3) := by
  unfold StableHlo.held
  rw [bigSep_eq_bigSepL_of_eq [Proc.devRef .tc main_arg0, Proc.devRef .tc main_arg1, Proc.devRef .tc main_v1, Proc.devRef .tc main_v2, Proc.devRef .tc main_v3]
    (by decide) (by decide)]
  rfl

theorem held_others (W : Valuation τ sig (Elt F)) : (StableHlo.held (c : Thread nD τ) others W : sProp 𝕄)
    = iprop(pt c W main_arg0 ∗ pt c W main_arg1 ∗ pt c W main_v1) := by
  unfold StableHlo.held
  rw [bigSep_eq_bigSepL_of_eq [Proc.devRef .tc main_arg0, Proc.devRef .tc main_arg1, Proc.devRef .tc main_v1] (by decide) (by decide)]
  rfl

theorem held_arrays (W : Valuation τ sig (Elt F)) : (StableHlo.held (c : Thread nD τ) (Pipeline.arrRefs (τ := τ) spec0) W : sProp 𝕄)
    = iprop(pt c W main_v2 ∗ pt c W main_v3) := by
  unfold StableHlo.held
  rw [bigSep_eq_bigSepL_of_eq [Proc.devRef .tc main_v2, Proc.devRef .tc main_v3] (by decide) (by decide)]
  rfl

/-- The buffers at the launch, -/
def V₀ : Valuation τ sig (Elt F) := fun b => m (c, b)
/-- when the region is entered, -/
def V₁ : Valuation τ sig (Elt F) := StableHlo.after hostOps0 (V₀ m c)
/-- and after it: the result array holds the result. -/
def V₂ : Valuation τ sig (Elt F) := Function.update (V₁ m c) (Proc.devRef .tc main_v3) (result m c)

theorem V₂_result : V₂ m c (Proc.devRef .tc main_v3) = result m c := Function.update_self ..
theorem V₂_ne {b : DevRef τ sig} (h : b ≠ Proc.devRef .tc main_v3) : V₂ m c b = V₁ m c b := Function.update_of_ne h ..

theorem pt_V₂ {b : Ref sig .tc} (h : Proc.devRef .tc b ≠ (Proc.devRef .tc main_v3 : DevRef τ sig)) :
    (pt c (V₂ m c) b : sProp 𝕄) = pt c (V₁ m c) b := by
  unfold pt; rw [V₂_ne m c h]

/-! ## The segments -/

/-- What rides beside the buffers up to the region. -/
def riding : sProp 𝕄 := iprop((given m c ∗ ∃ r, prngReg c r) ∗ ∃ W, owes (c : Thread nD τ) (O c 0) W)

theorem hostOps0_bufs : ∀ op ∈ (hostOps0 : List (HloOp τ sig (Elt F))), op.bufs ⊆ bufs := fun op h => by
  simp only [List.mem_cons, List.not_mem_nil, or_false] at h
  rcases h with rfl | rfl
  · show ({Proc.devRef .tc main_arg0, Proc.devRef .tc main_v1} : Finset (DevRef τ sig)) ⊆ bufs; decide
  · show ({Proc.devRef .tc main_arg1, Proc.devRef .tc main_v2} : Finset (DevRef τ sig)) ⊆ bufs; decide

/-- The host operations. -/
def seg0 : Pipeline.HostSeg (Name := ℕ) (U := UU) (pcfgs (F := F)) defs₀ 𝒱₀ (L NI) lv :=
  Pipeline.HostSeg.ofOps _ _ _ _ _ bufs hostOps0 hostOps0_bufs (List.forall_iff_forall_mem.mp hostOps0_fresh) (V₀ m) (riding m)

/-- At the region's entry the kernel's own cells are opened. -/
theorem enter : iprop(given m c ∗ Pipeline.ownSems0 osem c ∗ levAts (L NI) lv) ⊢ (|={Set.univ}=> ready m c : sProp 𝕄) := by
  unfold given ready
  iintro ⟨⟨⟨%K, #HI⟩, HO, ⟨Ab, #Hp, #Hn⟩, HT, HC⟩, HS, #Hlev⟩
  ihave HS := (ownSems_open c) $$ HS
  icases HS with ⟨HZ, HL⟩
  imod (open_all m K c) $$ [HO HZ Ab] with ⟨HP, HN⟩
  · isplitr
    · unfold invs; isplitr; · iexact HI
      iexact Hlev
    isplitl [HO]; · iexact HO
    isplitl [HZ]; · iexact HZ
    isplitl [Ab]; · iexact Ab
    isplitr; · iexact Hp
    iexact Hn
  imodintro
  isplitl [HP HN]
  · iexists K
    isplitr
    · unfold invs; isplitr; · iexact HI
      iexact Hlev
    isplitl [HP] <;> iassumption
  isplitl [HT]; · iexact HT
  isplitl [HC] <;> iassumption

theorem held_one (W : Valuation τ sig (Elt F)) : (StableHlo.held (c : Thread nD τ) {Proc.devRef .tc main_v1} W : sProp 𝕄) = pt c W main_v1 := by
  unfold StableHlo.held; rw [BI.bigSep_singleton]

theorem hin : iprop(Pipeline.scopedRest spec0 c ∗ (∃ r, prngReg c r) ∗ StableHlo.held (c : Thread nD τ) {Proc.devRef .tc main_v1} (V₁ m c) ∗ ready m c)
    ⊢ (dat0 m c).Φ 0 := by
  rw [show (dat0 m c).Φ 0 = iprop(ready m c ∗ xs m c ∗ scratch c ∗ ∃ r, prngReg c r) from rfl, scopedRest0_eq, held_one]
  unfold scratch
  iintro ⟨Hs, Hp, Hx, HK⟩
  isplitl [HK]; · iexact HK
  isplitl [Hx]; · unfold xs; iexact Hx
  isplitl [Hs] <;> iassumption

theorem hout : (dat0 m c).Φ (Fin.last cfg0.N)
    ⊢ iprop(Pipeline.scopedRest spec0 c ∗ (∃ r, prngReg c r) ∗ StableHlo.held (c : Thread nD τ) {Proc.devRef .tc main_v1} (V₂ m c)
      ∗ Pipeline.ownSems0 osem c ∗ semVal (barC c) 0) := by
  rw [show (dat0 m c).Φ (Fin.last cfg0.N) = iprop(semVal (barC c) 0 ∗ (zeros c ∗ semVal ((c : Thread nD τ), .dma ldS) 0) ∗ xs m c ∗ scratch c ∗ ∃ r, prngReg c r) from rfl,
    scopedRest0_eq, held_one, pt_V₂ m c (by decide)]
  unfold scratch
  iintro ⟨Hb, HZ, Hx, Hs, Hp⟩
  isplitl [Hs]; · iexact Hs
  isplitl [Hp]; · iexact Hp
  isplitl [Hx]; · unfold xs; iexact Hx
  isplitl [HZ]; · iapply (ownSems_close c); iexact HZ
  iexact Hb

theorem share_full (w : Fin cfg0.W) : (dat0 m c).share w = fullShare := by
  unfold Dat.share; split <;> rfl

/-- Everything owed lies above index 0, at which the pipeline's own waits stand. -/
theorem owed_above (t : Fin (cfg0.N + 1)) (g : GSem nD τ sig) (i : ℕ) (h : 0 < (dat0 m c).owed t g i) : i ∈ L NI g ∧ 0 < lv g i := by
  have e : (dat0 m c).owed t = if t.val = 0 then O c 0 else 0 := rfl
  rw [e] at h
  split at h
  · unfold O at h
    obtain ⟨x, hx, rfl, rfl⟩ := TalkSites.tallyL_pos h
    have := dues_above c 0 0 (by decide) x hx
    exact ⟨mem_L' this.1 this.2.2, this.2.1⟩
  · exact absurd h (Nat.lt_irrefl 0)

/-- The arrays at the region's exit. -/
theorem arr_end (w : Fin cfg0.W) : (dat0 m c).arrAt w cfg0.N = V₂ m c (Proc.devRef .tc (Pipeline.arrRef spec0 w)) := by
  fin_cases w
  · refine ((dat0 m c).arrAt_in (0 : Fin 2) rfl _).trans ?_
    exact (V₂_ne m c (by decide)).symm
  · show (dat0 m c).arrAt (1 : Fin 2) cfg0.N = V₂ m c (Proc.devRef .tc main_v3)
    rw [V₂_result]
    refine (read_result c _).symm.trans ?_
    rw [show cfg0.N = (t0_0 : Fin cfg0.N).val + 1 from rfl, (dat0 m c).arrAt_succ (1 : Fin 2) t0_0, if_pos (flush0_1 t0_0)]
    exact View.read_write_univ _ _

set_option backward.isDefEq.respectTransparency.types false in
/-- The kernel's region. -/
def reg0 : Pipeline.RegionSeg (pcfgs (F := F)) adm (pdats m) 0 defs₀ 𝒱₀ (L NI) lv 0 :=
  Pipeline.RegionSeg.ofTalk (pcfgs (F := F)) adm (pdats m) 0 defs₀ 𝒱₀ (L NI) lv 0 osem ownSemFacts
    {Proc.devRef .tc main_v1} others (by decide) launch0.toP rfl (fun c => (body_obligation m c).loose)
    (fun _ => 0) (fun c => O c 0) (fun c => (zero_add _).symm) (fun _ => rfl) (fun _ => rfl) (fun c w => share_full m c w)
    (V₁ m) (V₂ m) (fun c b hb => V₂_ne m c (fun h => absurd (h ▸ (Finset.mem_sdiff.mp hb).1) (by decide)))
    (given m) (fun c => semVal (barC c) 0) (ready m) (fun c => semVal (barC c) 0) (enter m) (hin m) (hout m)
    (fun c => by iintro H; imodintro; iexact H)
    (fun _ => 0)
    ⟨fun c w s => mem_L' rfl (by decide), fun _ w s => le_refl _, fun c t g i h => owed_above m c t g i h⟩
    (fun _ => iprop(emp))
    (fun c w => by fin_cases w <;> rfl) (arr_end m)

theorem reg0_pre : iprop(StableHlo.held (c : Thread nD τ) bufs (V₁ m c) ∗ riding m c) ⊢ (reg0 m).pre c := by
  show _ ⊢ iprop(StableHlo.held (c : Thread nD τ) (Pipeline.arrRefs (τ := τ) spec0) (V₁ m c) ∗ (∃ r, prngReg c r)
    ∗ (StableHlo.held (c : Thread nD τ) others (V₁ m c) ∗ emp) ∗ given m c ∗ ∃ Wd, owes (c : Thread nD τ) (0 + O c 0) Wd)
  rw [held_bufs, held_arrays, held_others, zero_add]
  unfold riding
  iintro ⟨⟨H0, H1, H2, H3, H4⟩, ⟨HG, Hp⟩, HO⟩
  isplitl [H3 H4]; · isplitl [H3] <;> iassumption
  isplitl [Hp]; · iexact Hp
  isplitl [H0 H1 H2]
  · isplitl [H0 H1 H2]
    · isplitl [H0]; · iexact H0
      isplitl [H1] <;> iassumption
    iempintro
  isplitl [HG] <;> iassumption

theorem reg0_post : (reg0 m).post c ⊢ iprop((StableHlo.held (c : Thread nD τ) bufs (V₂ m c) ∗ semVal (barC c) 0)
    ∗ ∃ W, owes (c : Thread nD τ) (0 : CellTallies nD τ sig ℕ) W) := by
  show iprop(StableHlo.held (c : Thread nD τ) (Pipeline.arrRefs (τ := τ) spec0) (V₂ m c) ∗ (∃ r, prngReg c r)
    ∗ (StableHlo.held (c : Thread nD τ) others (V₂ m c) ∗ emp) ∗ semVal (barC c) 0 ∗ ∃ Wd, owes (c : Thread nD τ) (0 : CellTallies nD τ sig ℕ) Wd) ⊢ _
  rw [held_bufs, held_arrays, held_others]
  iintro ⟨⟨H3, H4⟩, -, ⟨⟨H0, H1, H2⟩, -⟩, Hb, HO⟩
  isplitl [H0 H1 H2 H3 H4 Hb]
  · isplitr [Hb]
    · isplitl [H0]; · iexact H0
      isplitl [H1]; · iexact H1
      isplitl [H2]; · iexact H2
      isplitl [H3] <;> iassumption
    iexact Hb
  iexact HO

end Cert.KernelIdeal.Ring

end
-- ==== Proof.RingIdeal.Run.lean ====
/- The program's launch, what it deals to the devices, and the run to its end. -/
module

public import proofs.«01_k».proof.Proof.RingIdeal.Launch

@[expose] public section

set_option maxRecDepth 16384

noncomputable section

namespace Cert.KernelIdeal.Ring

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.TalkSites (Pay tallyL Fam)
open Idealize.ShloMosaic.SiteBlocks (L lv Funds)
open Idealize.ShloMosaic.Pipeline (Dat BodyObligation)

variable {F : FTy → Type} [FloatOps F]

local notation "𝕄" => MT nD τ sig ℕ (Elt F) ℕ UU ℕ

variable (m : (ℓ : Loc nD τ sig) → Buf (Elt F) ℓ) (ρ : Dev nD → PrngReg) (c : Dev nD)

/-! ## The credit of what a device is to be paid -/

/-- What the neighbors pay device `c`, at its own cells. -/
def owned (c : Dev nD) : List (Pay nD τ sig) :=
  [(barC c, 1, 1), (barC c, 1, 1),
   (rcvC c 0, 2, N), (rcvC c 1, 3, N), (rcvC c 2, 4, N), (crdC c, 5, 1),
   (rcvC c 0, 6, N), (rcvC c 1, 7, N), (rcvC c 2, 8, N), (crdC c, 9, 1)]

/-- Going around the ring does not change a sum over the devices. -/
theorem sum_nxt {A : Type} [AddCommMonoid A] (f : Dev nD → A) : (∑ d, f (nxt d)) = ∑ d, f d := Equiv.sum_comp ringEquiv f
theorem sum_prv {A : Type} [AddCommMonoid A] (f : Dev nD → A) : (∑ d, f (prv d)) = ∑ d, f d := Equiv.sum_comp ringEquiv.symm f

/-- All that is owed is all that is to be paid. -/
theorem sum_owed : (∑ d : Dev nD, O d 0) = ∑ d : Dev nD, tallyL (owned d) := by
  unfold O dues owned
  simp only [List.drop_zero, tallyL, Finset.sum_add_distrib]
  rw [sum_prv (fun d => Pay.tally (barC d, 1, 1)), sum_nxt (fun d => Pay.tally (barC d, 1, 1)),
    sum_nxt (fun d => Pay.tally (rcvC d 0, 2, N)), sum_nxt (fun d => Pay.tally (rcvC d 1, 3, N)), sum_nxt (fun d => Pay.tally (rcvC d 2, 4, N)),
    sum_prv (fun d => Pay.tally (crdC d, 5, 1)),
    sum_nxt (fun d => Pay.tally (rcvC d 0, 6, N)), sum_nxt (fun d => Pay.tally (rcvC d 1, 7, N)), sum_nxt (fun d => Pay.tally (rcvC d 2, 8, N)),
    sum_prv (fun d => Pay.tally (crdC d, 9, 1))]

theorem owned_own (d : Dev nD) (x : Pay nD τ sig) (h : x ∈ owned d) : x.1.1 = (d : Thread nD τ) := by
  unfold owned at h
  simp only [List.mem_cons, List.not_mem_nil, _root_.or_false] at h
  rcases h with rfl | rfl | rfl | rfl | rfl | rfl | rfl | rfl | rfl | rfl <;> rfl

theorem owned_at (d : Dev nD) (g : GSem nD τ sig) (h : tallyL (owned d) g ≠ 0) : g.1 = (d : Thread nD τ) := by
  obtain ⟨i, hi⟩ : ∃ i, tallyL (owned d) g i ≠ 0 := by
    by_contra hn; push Not at hn; exact h (Finsupp.ext hn)
  obtain ⟨x, hx, rfl, -⟩ := TalkSites.tallyL_pos (Nat.pos_of_ne_zero hi)
  exact owned_own d x hx

/-- The conjunction over a list, written out. -/
theorem list_7 {A : Type} (x0 x1 x2 x3 x4 x5 x6 : A) (Φ : A → sProp (MT nD τ sig ℕ (Elt F) ℕ UU ℕ)) :
    bigSepL [x0, x1, x2, x3, x4, x5, x6] Φ = iprop(Φ x0 ∗ Φ x1 ∗ Φ x2 ∗ Φ x3 ∗ Φ x4 ∗ Φ x5 ∗ Φ x6) := rfl
theorem list_10 {A : Type} (x0 x1 x2 x3 x4 x5 x6 x7 x8 x9 : A) (Φ : A → sProp (MT nD τ sig ℕ (Elt F) ℕ UU ℕ)) :
    bigSepL [x0, x1, x2, x3, x4, x5, x6, x7, x8, x9] Φ = iprop(Φ x0 ∗ Φ x1 ∗ Φ x2 ∗ Φ x3 ∗ Φ x4 ∗ Φ x5 ∗ Φ x6 ∗ Φ x7 ∗ Φ x8 ∗ Φ x9) := rfl
theorem list_16 {A : Type} (x0 x1 x2 x3 x4 x5 x6 x7 x8 x9 x10 x11 x12 x13 x14 x15 : A) (Φ : A → sProp (MT nD τ sig ℕ (Elt F) ℕ UU ℕ)) :
    bigSepL [x0, x1, x2, x3, x4, x5, x6, x7, x8, x9, x10, x11, x12, x13, x14, x15] Φ = iprop(Φ x0 ∗ Φ x1 ∗ Φ x2 ∗ Φ x3 ∗ Φ x4 ∗ Φ x5 ∗ Φ x6 ∗ Φ x7 ∗ Φ x8 ∗ Φ x9 ∗ Φ x10 ∗ Φ x11 ∗ Φ x12 ∗ Φ x13 ∗ Φ x14 ∗ Φ x15) := rfl

/-- A device's share of the launch credit is the credit of what it is to be paid. -/
theorem credit : (Pipeline.launchCred (fun d => O d 0) c : sProp 𝕄) ⊢ allCred c := by
  rw [Pipeline.launchCred_of_sum (fun d => O d 0) (fun d => tallyL (owned d)) sum_owed owned_at c, TalkSites.cred_tallyL]
  unfold owned allCred halfCred
  rw [show (tallyAt (barC c) 1 2 : CellTallies nD τ sig ℕ) = tallyAt (barC c) 1 1 + tallyAt (barC c) 1 1 from (tallyAt_add (barC c) 1 1 1).symm]
  rw [list_10]
  iintro ⟨B, B', R0, R1, R2, C, S0, S1, S2, D⟩
  isplitl [B B']
  · iapply (cred_add _ _).2
    isplitl [B] <;> iassumption
  isplitl [R0 R1 R2 C]
  · isplitl [R0]; · iexact R0
    isplitl [R1]; · iexact R1
    isplitl [R2] <;> iassumption
  isplitl [S0]; · iexact S0
  isplitl [S1]; · iexact S1
  isplitl [S2] <;> iassumption

/-! ## What the launch deals -/

theorem pays_nodup : (pays c).Nodup := by revert c; decide +kernel

/-- A device's neighbors. -/
abbrev nb (c : Dev nD) : Finset (Dev nD) := {prv c, nxt c}

theorem toks_list : (bigSep (fam.toks c 0) fun x => (dutyTok ER x.1 x.2.1 x.2.2 : sProp 𝕄)) ⊢ allTok c := by
  show (bigSep (pays c).toFinset fun x => (dutyTok ER x.1 x.2.1 x.2.2 : sProp 𝕄)) ⊢ allTok c
  rw [bigSep_eq_bigSepL_of_eq (pays c) rfl (pays_nodup c)]
  unfold pays allTok halfTok hopTok
  rw [list_16]
  iintro ⟨P, Q, A0, A1, A2, A3, A4, A5, A6, B0, B1, B2, B3, B4, B5, B6⟩
  isplitl [P Q]; · isplitl [P] <;> iassumption
  isplitl [A0 A1 A2 A3 A4 A5 A6]
  · isplitl [A0 A1]; · isplitl [A0] <;> iassumption
    isplitl [A2 A3]; · isplitl [A2] <;> iassumption
    isplitl [A4 A5]; · isplitl [A4] <;> iassumption
    iexact A6
  isplitl [B0 B1]; · isplitl [B0] <;> iassumption
  isplitl [B2 B3]; · isplitl [B2] <;> iassumption
  isplitl [B4 B5]; · isplitl [B4] <;> iassumption
  iexact B6

theorem opens_list : (bigSep (fam.dorm 0) fun sm => (openTok ER ((c : Thread nD τ), sm) : sProp 𝕄)) ⊢ opens c := by
  show (bigSep dorms fun sm => (openTok ER ((c : Thread nD τ), sm) : sProp 𝕄)) ⊢ opens c
  rw [bigSep_eq_bigSepL_of_eq [.dma (sndS 0), .dma (sndS 1), .dma (sndS 2), .dma (rcvS 0), .dma (rcvS 1), .dma (rcvS 2), .reg crdS] (by decide) (by decide)]
  unfold opens
  rw [list_7]
  iintro ⟨S0, S1, S2, R0, R1, R2, C⟩
  isplitl [S0 S1 S2]
  · isplitl [S0]; · iexact S0
    isplitl [S1] <;> iassumption
  isplitl [R0 R1 R2]
  · isplitl [R0]; · iexact R0
    isplitl [R1] <;> iassumption
  iexact C

/-- What the launch makes of the protocol on a device, with the device's credit, is what the region is entered from. -/
theorem given_intro : iprop(allCred c ∗ fam.launched ER (ringRd m) nb c) ⊢ (given m c : sProp 𝕄) := by
  unfold Fam.launched Fam.barPos given
  rw [show (bigSep Finset.univ fun j : Fin 1 => (fam.rides ER (ringRd m) c j : sProp 𝕄)) = fam.rides ER (ringRd m) c 0 from by
    rw [show (Finset.univ : Finset (Fin 1)) = {0} from rfl, BI.bigSep_singleton]]
  unfold Fam.rides
  iintro ⟨HC, ⟨-, Ab, Hr⟩, ⟨HI, HO, HT⟩⟩
  ihave #Hr := (show (bigSep (nb c) fun n => (reached ER ((n : Thread nD τ), fam.bar) 0 : sProp 𝕄)) ⊢ iprop(reached ER (barC (prv c)) 0 ∗ reached ER (barC (nxt c)) 0) from by
    unfold nb; rw [bigSep_insert (by rw [Finset.mem_singleton]; exact fun h => nxt_ne_prv c h.symm), bigSep_singleton]; exact Entails.of_eq rfl) $$ Hr
  isplitl [HI]; · iexact HI
  isplitl [HO]; · iapply (opens_list c); iexact HO
  isplitl [Ab]
  · isplitl [Ab]; · iexact Ab
    iexact Hr
  isplitl [HT]; · iapply (toks_list c); iexact HT
  iexact HC

/-- The protocol's launch element. -/
def seed : RR := launchOf fam.S fam.Sd fam.T
/-- The launch element: the pipeline's at its staging cells, the protocol's at the ring's cells. -/
def u₀ : UU := (initOf (Pipeline.cells (Pipeline.pin (pcfgs (F := F)) adm) (launch0.toP.cellOf_inj adm))
  (Pipeline.launchToks (Pipeline.pin (pcfgs (F := F)) adm) (launch0.toP.cellOf_inj adm)), (seed, 1))

/-- All of a resource given to the first device. -/
def onFirst (X : sProp 𝕄) (c : Dev nD) : sProp 𝕄 := if c = 0 then X else iprop(emp)
theorem bigSep_onFirst (X : sProp 𝕄) : bigSep Finset.univ (onFirst X) = X := by
  rw [bigSep_univ_at _ (0 : Dev nD), bigSep_congr (s := Finset.univ.erase (0 : Dev nD)) (Ψ := fun _ => (BI.emp : sProp 𝕄))
      fun c hc => by unfold onFirst; rw [if_neg (Finset.ne_of_mem_erase hc)]; rfl, BI.bigSep_emp_const]
  unfold onFirst; rw [if_pos rfl]
  exact BI.equiv_iff.mp sep_emp

/-- The protocol's launch element, kept by the first device until it is dealt. -/
def kept : Dev nD → sProp 𝕄 := onFirst (BI.own (ER seed))

theorem unscopedSems_bar : (unscopedSems0 c : sProp 𝕄) = semVal (barC c) 0 := by
  unfold unscopedSems0
  rw [show (Finset.univ.filter fun sm : SemLoc sig => ¬ sm.isScoped .tc) = {SemLoc.reg barS} from by decide, BI.bigSep_singleton]

/-- The barrier counters and the launch element become what every device is given. -/
theorem funding : Funds ER (fun c => (semVal (barC c) 0 : sProp 𝕄)) (fun d => O d 0) seed
    (fun c => iprop(Pipeline.launchCred (fun d => O d 0) c ∗ fam.launched ER (ringRd m) nb c)) Set.univ := by
  have h := TalkSites.pass (fun d => O d 0) (fam.funds ER (ringRd m) (fun g _ h => h) nb (Es := Set.univ))
  simp only [zero_add] at h
  exact h

/-- What a device holds at the program's start, -/
def start₀ : sProp 𝕄 := iprop(StableHlo.held (c : Thread nD τ) bufs (V₀ m c) ∗ riding m c)
/-- and at its end. -/
def end₀ : sProp 𝕄 := iprop(StableHlo.held (c : Thread nD τ) bufs (V₂ m c) ∗ semVal (barC c) 0)

/-- What a device has from the launch beside the protocol's. -/
def plain : sProp 𝕄 := iprop(StableHlo.held (c : Thread nD τ) bufs (V₀ m c) ∗ owes (c : Thread nD τ) (O c 0) ∅ ∗ ∃ r, prngReg c r)

theorem start_intro : iprop(plain m c ∗ (Pipeline.launchCred (fun d => O d 0) c ∗ fam.launched ER (ringRd m) nb c)) ⊢ (start₀ m c : sProp 𝕄) := by
  unfold plain start₀ riding
  iintro ⟨⟨Hh, HO, Hp⟩, HC, HL⟩
  isplitl [Hh]; · iexact Hh
  isplitr [HO]
  · isplitl [HC HL]
    · iapply (given_intro m c)
      isplitl [HC]; · iapply (credit c); iexact HC
      iexact HL
    iexact Hp
  iexists ∅; iexact HO

theorem init : iprop((bigSep Finset.univ fun c : Dev nD => iprop(unscopedBufs c (fun b => m ((c : Thread nD τ).loc b)) ∗ unscopedSems0 c
      ∗ owes (c : Thread nD τ) (O c 0) ∅ ∗ Pipeline.launchCred (fun d => O d 0) c ∗ prngReg c (ρ c) ∗ kept c)) ∗ levAts (L NI) lv)
    ⊢ (|={Set.univ}=> bigSep Finset.univ (start₀ m) : sProp 𝕄) := by
  have hcore (c : Dev nD) : iprop(unscopedBufs c (fun b => m ((c : Thread nD τ).loc b)) ∗ unscopedSems0 c
      ∗ owes (c : Thread nD τ) (O c 0) ∅ ∗ Pipeline.launchCred (fun d => O d 0) c ∗ prngReg c (ρ c) ∗ kept c)
      ⊢ (iprop(plain m c ∗ ((semVal (barC c) 0 ∗ Pipeline.launchCred (fun d => O d 0) c) ∗ kept c)) : sProp 𝕄) := by
    rw [show unscopedBufs c (fun b => m ((c : Thread nD τ).loc b)) = StableHlo.held (c : Thread nD τ) bufs (V₀ m c) from bufs_held c (V₀ m c),
      unscopedSems_bar]
    unfold plain
    iintro ⟨Hh, Hs, HO, HC, Hp, HK⟩
    isplitl [Hh HO Hp]
    · isplitl [Hh]; · iexact Hh
      isplitl [HO]; · iexact HO
      iexists (ρ c); iexact Hp
    isplitl [Hs HC]; · isplitl [Hs] <;> iassumption
    iexact HK
  iintro ⟨H, -⟩
  ihave H := (show (bigSep Finset.univ fun c : Dev nD => iprop(unscopedBufs c (fun b => m ((c : Thread nD τ).loc b)) ∗ unscopedSems0 c
      ∗ owes (c : Thread nD τ) (O c 0) ∅ ∗ Pipeline.launchCred (fun d => O d 0) c ∗ prngReg c (ρ c) ∗ kept c))
      ⊢ (bigSep Finset.univ fun c : Dev nD => iprop(plain m c ∗ ((semVal (barC c) 0 ∗ Pipeline.launchCred (fun d => O d 0) c) ∗ kept c)) : sProp 𝕄)
    from bigSep_mono fun c _ => hcore c) $$ H
  ihave H := (Entails.of_eq (bigSep_sep' _ _ _)) $$ H; icases H with ⟨HB, H⟩
  ihave H := (Entails.of_eq (bigSep_sep' _ _ _)) $$ H; icases H with ⟨HS, HK⟩
  ihave HK := (show bigSep Finset.univ (kept (F := F)) ⊢ BI.own (ER seed) from Entails.of_eq (bigSep_onFirst _)) $$ HK
  imod (funding m) $$ [HS HK] with HR
  · isplitl [HS] <;> iassumption
  imodintro
  iapply (show (bigSep Finset.univ fun c : Dev nD => iprop(plain m c ∗ (Pipeline.launchCred (fun d => O d 0) c ∗ fam.launched ER (ringRd m) nb c)))
      ⊢ (bigSep Finset.univ (start₀ m) : sProp 𝕄) from bigSep_mono fun c _ => start_intro m c)
  iapply (Entails.of_eq (bigSep_sep' _ _ _).symm)
  isplitl [HB] <;> iassumption

/-! ## The run -/

theorem unscoped_bar : ∀ sm : SemLoc sig, sm.isScoped .tc = false → sm = .reg barS := by decide

/-- The program's segments. -/
def segs : List (Pipeline.Seg (pcfgs (F := F)) adm (pdats m) 0 defs₀ 𝒱₀ (L NI) lv) := [.host (seg0 m), .region (reg0 m)]

theorem V₁_arg0 : V₁ m c (Proc.devRef .tc main_arg0) = m ((c : Thread nD τ).loc main_arg0) := V_main_arg0 m c
theorem V₁_arg1 : V₁ m c (Proc.devRef .tc main_arg1) = m ((c : Thread nD τ).loc main_arg1) := V_main_arg1 m c

set_option backward.isDefEq.respectTransparency.types false in
/-- Every run of the program from zero counters ends, and in the end every device's arguments are what they were, its result
    holds `result`, and every counter is zero. -/
theorem run_main : θ_run defs (onTc (τ := τ) (main (F := F))) (s₀ m ρ)
    (fun r => (∀ c : Dev nD, r.2.mem ((c : Thread nD τ).loc main_arg0) = m ((c : Thread nD τ).loc main_arg0)
        ∧ r.2.mem ((c : Thread nD τ).loc main_arg1) = m ((c : Thread nD τ).loc main_arg1)
        ∧ r.2.mem ((c : Thread nD τ).loc main_v3) = result m c) ∧ r.2.sem = fun _ => 0) :=
  Pipeline.θ_run_regions_kit_sems (pcfgs (F := F)) adm (pdats m) 0 (launch0.toP.cellOf_inj adm) EP defs₀ 𝒱₀ (L NI) lv m ρ main (segs m)
    (fun c Q => by rw [main_segs adm (pdats m) 0 𝒱₀ (L NI) lv (seg0 m) (reg0 m) rfl c]; rfl)
    (by simp only [segs, Pipeline.Seg.pipes_host, Pipeline.Seg.pipes_region, Pipeline.Seg.pipes_nil]; decide)
    (O₀ := fun c => O c 0) (hL := SiteBlocks.hL NI) (G := kept) (u₀ := u₀)
    (hu₀ := by
      unfold u₀ kept
      iintro Hu
      ihave H := (ownU_pair _ _) $$ Hu
      icases H with ⟨HP, HX⟩
      imodintro
      isplitl [HP]; · iexact HP
      rw [bigSep_onFirst]; iexact HX)
    (T₀ := start₀ m) (Tₙ := end₀ m)
    (hch := ⟨fun c => .rfl, fun c => reg0_pre m c, fun c => reg0_post m c⟩)
    (hinit := init m ρ)
    (QY := fun c s => (s.mem ((c : Thread nD τ).loc main_arg0) = V₂ m c main_arg0 ∧ s.mem ((c : Thread nD τ).loc main_arg1) = V₂ m c main_arg1
      ∧ s.mem ((c : Thread nD τ).loc main_v3) = V₂ m c main_v3) ∧ s.sem (barC c) = 0)
    (hfin := fun c s' => by
      dsimp only [end₀]; rw [held_bufs]
      iintro ⟨⟨⟨H0, H1, -, -, H3⟩, Hb⟩, HSI⟩
      icombine HSI H0 gives %h0
      icombine HSI H1 gives %h1
      icombine HSI H3 gives %h3
      icombine HSI Hb gives %hb
      imodintro
      isplitr
      · ipureintro
        exact ⟨⟨Buf.eq_of_forall_mem_univ h0, Buf.eq_of_forall_mem_univ h1, Buf.eq_of_forall_mem_univ h3⟩, by simpa using hb⟩
      iexact HSI)
    (hQ := fun s h hs => ⟨fun c => by
        obtain ⟨⟨h0, h1, h3⟩, -⟩ := h c
        exact ⟨h0.trans ((V₂_ne m c (by decide)).trans (V₁_arg0 m c)), h1.trans ((V₂_ne m c (by decide)).trans (V₁_arg1 m c)),
          h3.trans (V₂_result m c)⟩,
      sem_eq_zero hs fun c sm hsm => by
        obtain rfl := unscoped_bar sm hsm
        exact (h c).2⟩)

end Cert.KernelIdeal.Ring

end
-- ==== Proof.RingIdeal.Value.lean ====
/- What the ring reduce-scatter kernel computes, over the extended reals: device `c`'s result is block `yy c` of the rows of the
   reference's result.

   Both sides are brought to one closed form, `normed`: the four partial matrices summed, each row of the sum divided by the square root
   of its mean square plus a small constant, and multiplied by the gain. The kernel adds the four matrices along the ring, starting with
   its right neighbor's; the reference adds them in order. Addition of extended reals is commutative and associative, so the sums agree. -/
module

public import proofs.«01_k».proof.Defs
public import proofs.«01_k».proof.Proof.RingIdeal.Run
public import proofs.«01_k».proof.Proof.Gen.ReferenceIdeal.Run
public import Idealize.ShloMosaic.Lib.Pointwise
public import Idealize.ShloMosaic.Lib.Layout

@[expose] public section

set_option maxRecDepth 16384

noncomputable section

namespace Cert.KernelIdeal.Ring

open Cert.KernelIdeal.Gen
open Idealize.ShloMosaic Idealize.ShloMosaic.TcCoe Idealize.SL.Sem

/-! ## The closed form -/

/-- Four stacked matrices of extended reals. -/
abbrev Stack : Type := FVec Ideal ⟨3, ![4, 8192, 2048]⟩ .f32
/-- A gain for each column. -/
abbrev Gains : Type := FVec Ideal ⟨1, ![2048]⟩ .f32

/-- The sum of the four matrices at row `r` and column `k`. -/
def total (X : Stack) (r : Fin 8192) (k : Fin 2048) : EReal := ∑ p : Fin 4, X (ix3 p r k)

/-- A row divided by the square root of its mean square plus a small constant, times the gain, at column `k`. -/
def scaled (row : Fin 2048 → EReal) (g : Fin 2048 → EReal) (k : Fin 2048) : EReal :=
  Ideal.div (row k) (Ideal.sqrt (Ideal.div (∑ l : Fin 2048, row l * row l) (Ideal.ofBits .f32 0x45000000#32) + Ideal.ofBits .f32 0x358637BD#32)) * g k

/-- The whole computation at row `r` and column `k`. -/
def normed (X : Stack) (G : Gains) (r : Fin 8192) (k : Fin 2048) : EReal := scaled (total X r) (fun l => G (ix1 l)) k

/-! ## The reference -/

section Reference
open Cert.ReferenceIdeal Cert.ReferenceIdeal.Gen

/-- The reference's result as its operations compose it. -/
def refTerm (X : Stack) (G : Gains) : FVec Ideal ⟨2, ![8192, 2048]⟩ .f32 :=
  mulf (Host.divf (Host.reduceAdd X (constant (F := Ideal) S_ .f32 0x00000000#32) reducesTo_S4x8192x2048_S8192x2048_d0 h_S_) (broadcastInDim S8192x2048 ![0, 1] bcast_S8192x1_S8192x2048_0_1 (Host.sqrt (addf (Host.divf (broadcastInDim S8192x1 ![0] bcast_S8192_S8192x1_0 (Host.reduceAdd (mulf (Host.reduceAdd X (constant (F := Ideal) S_ .f32 0x00000000#32) reducesTo_S4x8192x2048_S8192x2048_d0 h_S_) (Host.reduceAdd X (constant (F := Ideal) S_ .f32 0x00000000#32) reducesTo_S4x8192x2048_S8192x2048_d0 h_S_)) (constant (F := Ideal) S_ .f32 0x00000000#32) reducesTo_S8192x2048_S8192_d1 h_S_)) (broadcastInDim S8192x1 ![] bcast_S_S8192x1 (constant (F := Ideal) S_ .f32 0x45000000#32))) (broadcastInDim S8192x1 ![] bcast_S_S8192x1 (constant (F := Ideal) S_ .f32 0x358637BD#32)))))) (broadcastInDim S8192x2048 ![0, 1] bcast_S1x2048_S8192x2048_0_1 (broadcastInDim S1x2048 ![1] bcast_S2048_S1x2048_1 G))

/-- The reference's result, at an index. -/
theorem refTerm_apply (X : Stack) (G : Gains) (r : Fin 8192) (k : Fin 2048) : refTerm X G (ix2 r k) = normed X G r k := by
  unfold normed scaled total
  pointwise [refTerm]

end Reference

/-! ## The kernel -/

/-- The body's last step on a row block of sums, at an index. -/
theorem pay_apply (S : FVec Ideal S2048x2048 .f32) (g : FVec Ideal S1x2048 .f32) (i k : Fin 2048) :
    k0_pay1 (F := Ideal) S g (ix2 i k) = scaled (fun l => S (ix2 i l)) (fun l => g (ix2 0 l)) k := by
  unfold scaled
  pointwise [k0_pay1]

/-! ### The arrays the body reads -/

section Arrays
variable (m : (ℓ : Loc nD τ sig) → Buf (Elt Ideal) ℓ) (c : Dev nD)

/-- The operations before the kernel drop the unit axis of the first argument, -/
theorem after_matrix (W : Valuation τ sig (Elt Ideal)) :
    StableHlo.after hostOps0 W (main_v1 : DevRef τ sig) = shapeCast S8192x2048 (W (main_arg0 : DevRef τ sig)) shapeCasts_S1x8192x2048_S8192x2048 := by
  after_results; rfl
/-- and put a unit axis in front of the second. -/
theorem after_gain (W : Valuation τ sig (Elt Ideal)) :
    StableHlo.after hostOps0 W (main_v2 : DevRef τ sig) = shapeCast S1x2048 (W (main_arg1 : DevRef τ sig)) shapeCasts_S2048_S1x2048 := by
  after_results; rfl

/-- The device's matrix is its first argument with the unit axis dropped, -/
theorem matrix_eq : V m c main_v1 = shapeCast S8192x2048 (m ((c : Thread nD τ).loc main_arg0)) shapeCasts_S1x8192x2048_S8192x2048 :=
  after_matrix _
/-- and its gain row is its second argument with a unit axis put in front. -/
theorem gain_eq : gain m c = shapeCast S1x2048 (m ((c : Thread nD τ).loc main_arg1)) shapeCasts_S2048_S1x2048 :=
  after_gain _

/-- A matrix with a unit axis in front, read without it. -/
theorem drop_apply (x : FVec Ideal S1x8192x2048 .f32) (r : Fin 8192) (k : Fin 2048) :
    shapeCast S8192x2048 x shapeCasts_S1x8192x2048_S8192x2048 (ix2 r k) = x (ix3 0 r k) := by
  pointwise
/-- A row read with a unit axis in front. -/
theorem front_apply (g : FVec Ideal S2048 .f32) (l : Fin 2048) :
    shapeCast S1x2048 g shapeCasts_S2048_S1x2048 (ix2 0 l) = g (ix1 l) := by
  pointwise

end Arrays

/-! ### The sums along the ring -/

/-- The memory in which every device holds its part of the stacked matrices `X` and the gains `G`. -/
structure Holds (m : (ℓ : Loc nD τ sig) → Buf (Elt Ideal) ℓ) (X : Stack) (G : Gains) : Prop where
  /-- Each device's first argument is the matrix its ring coordinate names. -/
  arg0 : ∀ c : Dev nD, m ((c : Thread nD τ).loc main_arg0) = Layout.blockN ⟨3, ![1, 8192, 2048]⟩ ⟨3, ![4, 8192, 2048]⟩ (Layout.meshBlock [2, 4, 4] ![[1], [], []] c) X
  /-- Each device's second argument is the gains. -/
  arg1 : ∀ c : Dev nD, m ((c : Thread nD τ).loc main_arg1) = G

/-- A device's ring coordinate is below four. -/
theorem yy_lt (c : Dev nD) : yy c < 4 := Nat.mod_lt _ (by decide)

/-- Along an axis that is not cut, an index of a block is the index of the whole. -/
theorem uncut {a : ℕ} (n : ℕ) {r : ℕ} (h : a = 0) : a * n + r = r := by rw [h, Nat.zero_mul, Nat.zero_add]

/-- The block a device's ring coordinate names, along the first axis. -/
theorem meshLin_yy (c : Dev nD) : Layout.meshLin [2, 4, 4] c.val [1] = yy c := by revert c; decide +kernel

variable {m : (ℓ : Loc nD τ sig) → Buf (Elt Ideal) ℓ} {X : Stack} {G : Gains}

/-- An element of the device's matrix is an element of the matrix its ring coordinate names. -/
theorem matrix_apply (H : Holds m X G) (c : Dev nD) (r : Fin 8192) (k : Fin 2048) :
    (V m c main_v1 : FVec Ideal S8192x2048 .f32) (ix2 r k) = X (ix3 ⟨yy c, yy_lt c⟩ r k) := by
  refine (congrFun (matrix_eq m c) (ix2 r k)).trans ((drop_apply _ r k).trans ?_)
  rw [H.arg0 c, Layout.blockN_apply]
  refine congrArg X (funext fun a => Fin.ext ?_)
  rw [Layout.TilesN.idx_val]
  match a with
  | 0 => exact congrArg (· * 1 + 0) (meshLin_yy c) |>.trans (Nat.mul_one _)
  | 1 => exact uncut _ rfl
  | 2 => exact uncut _ rfl

/-- A gain of the device's gain row. -/
theorem gain_apply (H : Holds m X G) (c : Dev nD) (l : Fin 2048) :
    (gain m c : FVec Ideal S1x2048 .f32) (ix2 0 l) = G (ix1 l) := by
  refine (congrFun (gain_eq m c) (ix2 0 l)).trans ((front_apply _ l).trans ?_)
  rw [H.arg1 c]

/-- An element of a block of the device's matrix. -/
theorem blk_apply (H : Holds m X G) (c : Dev nD) (b t y : ℕ) (hb : b % 4 = y) (hy : y < 4) (ht : t < 2) (i : Fin 2048) (k : Fin 1024) :
    blk m c b t (ix2 i k) = X (ix3 ⟨yy c, yy_lt c⟩ ⟨2048 * y + i.val, by omega⟩ ⟨1024 * t + k.val, by omega⟩) := by
  subst hb
  refine Eq.trans ?_ (matrix_apply H c _ _)
  unfold blk
  refine congrArg (V m c main_v1 : FVec Ideal S8192x2048 .f32) (funext fun a => Fin.ext ?_)
  match a with
  | 0 => show 2048 * (b % 4) + 1 * i.val = 2048 * (b % 4) + i.val; omega
  | 1 => show 1024 * (t % 2) + 1 * k.val = 1024 * t + k.val; omega

/-- Four values added from any place on a ring of four are their sum. -/
theorem sum_ring (f : Fin 4 → EReal) (y : ℕ) (hy : y < 4) (p q r s : Fin 4) (hp : p.val = (y + 1) % 4) (hq : q.val = (y + 2) % 4)
    (hr : r.val = (y + 3) % 4) (hs : s.val = y) : f p + f q + f r + f s = ∑ n : Fin 4, f n := by
  have cases : ∀ y p q r s : Fin 4, p.val = (y.val + 1) % 4 → q.val = (y.val + 2) % 4 → r.val = (y.val + 3) % 4 → s.val = y.val →
      (p = 1 ∧ q = 2 ∧ r = 3 ∧ s = 0) ∨ (p = 2 ∧ q = 3 ∧ r = 0 ∧ s = 1) ∨ (p = 3 ∧ q = 0 ∧ r = 1 ∧ s = 2) ∨ (p = 0 ∧ q = 1 ∧ r = 2 ∧ s = 3) := by
    decide +kernel
  rw [Fin.sum_univ_four]
  rcases cases ⟨y, hy⟩ p q r s hp hq hr hs with ⟨rfl, rfl, rfl, rfl⟩ | ⟨rfl, rfl, rfl, rfl⟩ | ⟨rfl, rfl, rfl, rfl⟩ | ⟨rfl, rfl, rfl, rfl⟩ <;> ac_rfl

/-- The finished sum of a half, at an index: the four matrices' elements added. -/
theorem summed_apply (H : Holds m X G) (c : Dev nD) (t : ℕ) (ht : t < 2) (i : Fin 2048) (k : Fin 1024) :
    summed m t c (ix2 i k) = total X ⟨2048 * yy c + i.val, by have := yy_lt c; omega⟩ ⟨1024 * t + k.val, by omega⟩ := by
  have y1 := yy_prv c
  have y2 := yy_prv (prv c)
  have y3 := yy_prv (prv (prv c))
  have hy := yy_lt c
  have e : summed m t c (ix2 i k)
      = ((blk m (prv (prv (prv c))) (yy (prv (prv (prv c))) + 3) t (ix2 i k) + blk m (prv (prv c)) (yy (prv (prv c)) + 6 - 0) t (ix2 i k))
          + blk m (prv c) (yy (prv c) + 6 - 1) t (ix2 i k)) + blk m c (yy c) t (ix2 i k) := rfl
  rw [e, blk_apply H _ _ t (yy c) (by omega) hy ht, blk_apply H _ _ t (yy c) (by omega) hy ht, blk_apply H _ _ t (yy c) (by omega) hy ht,
    blk_apply H _ _ t (yy c) (by omega) hy ht]
  unfold total
  generalize (⟨2048 * yy c + i.val, _⟩ : Fin 8192) = r
  generalize (⟨1024 * t + k.val, _⟩ : Fin 2048) = l
  exact sum_ring (fun p => X (ix3 p r l)) (yy c) hy _ _ _ _ (by show yy _ = _; omega) (by show yy _ = _; omega) (by show yy _ = _; omega) rfl

/-- The two halves side by side, at an index. -/
theorem joined_apply (H : Holds m X G) (c : Dev nD) (i l : Fin 2048) :
    joined (summed m 0 c) (summed m 1 c) (ix2 i l) = total X ⟨2048 * yy c + i.val, by have := yy_lt c; omega⟩ l := by
  unfold joined
  by_cases h : l.val < 1024
  · refine (dif_pos (show ((ix2 i l : S2048x2048.Idx) 1).val < 1024 from h)).trans ((summed_apply H c 0 (by omega) i ⟨l.val, h⟩).trans ?_)
    exact congrArg (total X _) (Fin.ext (by show 1024 * 0 + l.val = l.val; omega))
  · refine (dif_neg (show ¬((ix2 i l : S2048x2048.Idx) 1).val < 1024 from h)).trans
      ((summed_apply H c 1 (by omega) i ⟨l.val - 1024, by omega⟩).trans ?_)
    exact congrArg (total X _) (Fin.ext (by show 1024 * 1 + (l.val - 1024) = l.val; omega))

/-! ## The two agree -/

/-- A device's result is its block of the reference's result. -/
theorem result_eq (H : Holds m X G) (c : Dev nD) :
    result m c = Layout.blockN ⟨2, ![2048, 2048]⟩ ⟨2, ![8192, 2048]⟩ (Layout.meshBlock [2, 4, 4] ![[1], []] c) (refTerm X G) := by
  funext j
  obtain ⟨i, l, rfl⟩ : ∃ (i l : Fin 2048), j = ix2 i l := ⟨j 0, j 1, by funext a; match a with | 0 => rfl | 1 => rfl⟩
  rw [Layout.blockN_apply]
  have hy := yy_lt c
  have e : (Layout.TilesN.idx (S := ⟨2, ![2048, 2048]⟩) (T := ⟨2, ![8192, 2048]⟩) (by decide) (Layout.meshBlock [2, 4, 4] ![[1], []] c) (ix2 i l))
      = ix2 ⟨2048 * yy c + i.val, by omega⟩ l := by
    funext a
    refine Fin.ext ?_
    rw [Layout.TilesN.idx_val]
    match a with
    | 0 => exact (congrArg (· * 2048 + i.val) (meshLin_yy c)).trans (by show yy c * 2048 + i.val = 2048 * yy c + i.val; omega)
    | 1 => exact uncut _ rfl
  refine Eq.trans ?_ ((congrArg (refTerm X G) e).trans (refTerm_apply X G _ l)).symm
  refine (pay_apply (joined (summed m 0 c) (summed m 1 c)) (gain m c) i l).trans ?_
  unfold normed
  exact congrArg₂ (fun row g => scaled row g l) (funext fun k => joined_apply H c i k) (funext fun k => gain_apply H c k)

/-- The claim on values: from memories in which the devices hold their parts of the reference's arguments, every device of the kernel ends
    with its block of the reference's result, and all arguments end unchanged. -/
theorem algebraic : Cert.algebraic_KernelIdeal_ReferenceIdeal (hKernelIdeal := Cert.KernelIdeal.Gen.facts) (hReferenceIdeal := Cert.ReferenceIdeal.Gen.facts) := by
  intro m g m' g' _ hm
  refine ⟨refTerm (m' (((0 : Dev Cert.ReferenceIdeal.nD).tc : Thread Cert.ReferenceIdeal.nD Cert.ReferenceIdeal.τ).loc Cert.ReferenceIdeal.main_arg0))
    (m' (((0 : Dev Cert.ReferenceIdeal.nD).tc : Thread Cert.ReferenceIdeal.nD Cert.ReferenceIdeal.τ).loc Cert.ReferenceIdeal.main_arg1)), ?_, ?_⟩
  · have H : Holds m _ _ := ⟨fun c => (hm c).1, fun c => (hm c).2⟩
    exact (θ_run _ _ _).mono (fun r h c => ⟨(h.1 c).2.2.trans (result_eq H c), (h.1 c).1, (h.1 c).2.1⟩) (run_main m g)
  · exact (θ_run _ _ _).mono (fun r h => h 0) (Cert.ReferenceIdeal.Value.run m' g')

end Cert.KernelIdeal.Ring

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.RingReal.Run
public import proofs.«01_k».proof.Proof.RingIdeal.Run
public import proofs.«01_k».proof.Proof.RingIdeal.Value
public import Idealize.ShloMosaic.Lib.Quiescent
public import Idealize.ShloMosaic.Adequacy
public import Idealize.ShloMosaic.Init

@[expose] public section

noncomputable section

namespace Cert.Proof

open Idealize.ShloMosaic Idealize.SL.Sem Cert.Kernel

/-- The kernel at machine floats terminates, with its arguments unchanged and every counter at zero. -/
theorem frame_kernel : Cert.quiescent_Kernel (hKernel := Cert.Kernel.Gen.facts) := fun m g _ =>
  (θ_run _ _ _).mono (fun _ h => ⟨fun c => ⟨(h.1 c).1, (h.1 c).2.1⟩, h.2⟩) (Cert.Kernel.Ring.run_main m g)

/-- The kernel over the extended reals terminates, with its arguments unchanged and every counter at zero. -/
theorem frame_kernelIdeal : Cert.quiescent_KernelIdeal (hKernelIdeal := Cert.KernelIdeal.Gen.facts) := fun m g _ =>
  (θ_run _ _ _).mono (fun _ h => ⟨fun c => ⟨(h.1 c).1, (h.1 c).2.1⟩, h.2⟩) (Cert.KernelIdeal.Ring.run_main m g)

/-- The reference over the extended reals terminates, with its arguments unchanged; it has no counters. -/
theorem frame_reference : Cert.quiescent_ReferenceIdeal (hReferenceIdeal := Cert.ReferenceIdeal.Gen.facts) := fun m g _ =>
  (θ_run _ _ _).mono (fun r h => ⟨fun c => (h c).2, sem_eq_zero_of_no_sems (by decide) r.2⟩) (Cert.ReferenceIdeal.Value.run m g)

/-- Every claim of the certificate. -/
theorem claim : Cert.Claim := ⟨Cert.Kernel.Gen.facts, Cert.KernelIdeal.Gen.facts, Cert.ReferenceIdeal.Gen.facts,
  frame_kernel, frame_kernelIdeal, frame_reference, trivial, Cert.KernelIdeal.Ring.algebraic⟩

end Cert.Proof

end
